-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_sqrt_h" .f32 0x3DB504F3#32 (((Real.sqrt 128)⁻¹ : ℝ) : EReal)

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_tame : Cert.Pre_inputs_tame.Facts),
    quiescent_Kernel (hKernel := hKernel)
    ∧ quiescent_KernelIdeal (hKernelIdeal := hKernelIdeal)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_inputs_tame.lean ====
abbrev S16384x128 : Shape := ⟨2, ![16384, 128]⟩
abbrev S2048x128 : Shape := ⟨2, ![2048, 128]⟩
abbrev S16384 : Shape := ⟨1, ![16384]⟩
abbrev S2048 : Shape := ⟨1, ![2048]⟩
abbrev S128x128 : Shape := ⟨2, ![128, 128]⟩
abbrev S_ : Shape := ⟨0, ![]⟩
abbrev S16383 : Shape := ⟨1, ![16383]⟩
abbrev S2047 : Shape := ⟨1, ![2047]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x128 : S_.BroadcastsInDim S128x128 (![] : Fin 0 → Fin S128x128.rank)
  reducesTo_S128x128_S_d0_1 : S128x128.ReducesTo [0, 1] S_
  bcast_S_S16384 : S_.BroadcastsInDim S16384 (![] : Fin 0 → Fin S16384.rank)
  reducesTo_S16384_S_d0 : S16384.ReducesTo [0] S_
  slices_S16384_S16383_0 : S16384.Slices ![0] S16383
  slices_S16384_S16383_1 : S16384.Slices ![1] S16383
  reducesTo_S16383_S_d0 : S16383.ReducesTo [0] S_
  bcast_S_S2048 : S_.BroadcastsInDim S2048 (![] : Fin 0 → Fin S2048.rank)
  reducesTo_S2048_S_d0 : S2048.ReducesTo [0] S_
  slices_S2048_S2047_0 : S2048.Slices ![0] S2047
  slices_S2048_S2047_1 : S2048.Slices ![1] S2047
  reducesTo_S2047_S_d0 : S2047.ReducesTo [0] S_

variable [Facts]

def fn_part2 {F : FTy → Type} [FloatOps F] (main_arg2 : IVec S16384 32) (main_arg3 : IVec S2048 32) (main_v26 : IVec S_ 1) (main_v32 : IVec S_ 1) : IVec S_ 1 :=
  let main_v33 : IVec S16383 32 := (extractStridedSlice S16383 ![0] · slices_S16384_S16383_0) main_arg2
  let main_v34 : IVec S16383 32 := (extractStridedSlice S16383 ![1] · slices_S16384_S16383_1) main_arg2
  let main_v35 : IVec S16383 1 := cmpi .sle main_v33 main_v34
  let main_c_13 : IVec S_ 1 := constantI S_ 1 1#1
  let main_v36 : IVec S_ 1 := (fun x v => Host.reduce IntOp.andi x v reducesTo_S16383_S_d0 h_S_) main_v35 main_c_13
  let main_v37 : IVec S_ 1 := andi main_v32 main_v36
  let main_c_14 : IVec S_ 32 := constantI S_ 32 0#32
  let main_v38 : IVec S2048 32 := broadcastInDim S2048 ![] bcast_S_S2048 main_c_14
  let main_v39 : IVec S2048 1 := cmpi .sge main_arg3 main_v38
  let main_c_15 : IVec S_ 32 := constantI S_ 32 16#32
  let main_v40 : IVec S2048 32 := broadcastInDim S2048 ![] bcast_S_S2048 main_c_15
  let main_v41 : IVec S2048 1 := cmpi .slt main_arg3 main_v40
  let main_v42 : IVec S2048 1 := andi main_v39 main_v41
  let main_c_16 : IVec S_ 1 := constantI S_ 1 1#1
  let main_v43 : IVec S_ 1 := (fun x v => Host.reduce IntOp.andi x v reducesTo_S2048_S_d0 h_S_) main_v42 main_c_16
  let main_v44 : IVec S2047 32 := (extractStridedSlice S2047 ![0] · slices_S2048_S2047_0) main_arg3
  let main_v45 : IVec S2047 32 := (extractStridedSlice S2047 ![1] · slices_S2048_S2047_1) main_arg3
  let main_v46 : IVec S2047 1 := cmpi .sle main_v44 main_v45
  let main_c_17 : IVec S_ 1 := constantI S_ 1 1#1
  let main_v47 : IVec S_ 1 := (fun x v => Host.reduce IntOp.andi x v reducesTo_S2047_S_d0 h_S_) main_v46 main_c_17
  let main_v48 : IVec S_ 1 := andi main_v43 main_v47
  let main_v49 : IVec S_ 1 := andi main_v26 main_v37
  let main_v50 : IVec S_ 1 := andi main_v49 main_v48
  main_v50

def fn_part1 {F : FTy → Type} [FloatOps F] (main_arg2 : IVec S16384 32) (main_arg3 : IVec S2048 32) (main_arg4 : FVec F S128x128 .f32) (main_arg5 : FVec F S128x128 .f32) (main_v12 : IVec S_ 1) (main_v14 : IVec S128x128 1) (main_v15 : FVec F S128x128 .f32) : IVec S_ 1 :=
  let main_v16 : IVec S128x128 1 := cmpf .olt main_arg4 main_v15
  let main_v17 : IVec S128x128 1 := andi main_v14 main_v16
  let main_c_6 : IVec S_ 1 := constantI S_ 1 1#1
  let main_v18 : IVec S_ 1 := (fun x v => Host.reduce IntOp.andi x v reducesTo_S128x128_S_d0_1 h_S_) main_v17 main_c_6
  let main_v19 : IVec S_ 1 := andi main_v12 main_v18
  let main_cst_7 : FVec F S_ .f32 := constant S_ .f32 0xFF800000#32
  let main_v20 : FVec F S128x128 .f32 := broadcastInDim S128x128 ![] bcast_S_S128x128 main_cst_7
  let main_v21 : IVec S128x128 1 := cmpf .ogt main_arg5 main_v20
  let main_cst_8 : FVec F S_ .f32 := constant S_ .f32 0x7F800000#32
  let main_v22 : FVec F S128x128 .f32 := broadcastInDim S128x128 ![] bcast_S_S128x128 main_cst_8
  let main_v23 : IVec S128x128 1 := cmpf .olt main_arg5 main_v22
  let main_v24 : IVec S128x128 1 := andi main_v21 main_v23
  let main_c_9 : IVec S_ 1 := constantI S_ 1 1#1
  let main_v25 : IVec S_ 1 := (fun x v => Host.reduce IntOp.andi x v reducesTo_S128x128_S_d0_1 h_S_) main_v24 main_c_9
  let main_v26 : IVec S_ 1 := andi main_v19 main_v25
  let main_c_10 : IVec S_ 32 := constantI S_ 32 0#32
  let main_v27 : IVec S16384 32 := broadcastInDim S16384 ![] bcast_S_S16384 main_c_10
  let main_v28 : IVec S16384 1 := cmpi .sge main_arg2 main_v27
  let main_c_11 : IVec S_ 32 := constantI S_ 32 16#32
  let main_v29 : IVec S16384 32 := broadcastInDim S16384 ![] bcast_S_S16384 main_c_11
  let main_v30 : IVec S16384 1 := cmpi .slt main_arg2 main_v29
  let main_v31 : IVec S16384 1 := andi main_v28 main_v30
  let main_c_12 : IVec S_ 1 := constantI S_ 1 1#1
  let main_v32 : IVec S_ 1 := (fun x v => Host.reduce IntOp.andi x v reducesTo_S16384_S_d0 h_S_) main_v31 main_c_12
  fn_part2 (F := F) main_arg2 main_arg3 main_v26 main_v32

def fn {F : FTy → Type} [FloatOps F] (main_arg0 : FVec F S16384x128 .f32) (main_arg1 : FVec F S2048x128 .f32) (main_arg2 : IVec S16384 32) (main_arg3 : IVec S2048 32) (main_arg4 : FVec F S128x128 .f32) (main_arg5 : FVec F S128x128 .f32) (main_arg6 : FVec F S128x128 .f32) : IVec S_ 1 :=
  let main_cst : FVec F S_ .f32 := constant S_ .f32 0xFF800000#32
  let main_v0 : FVec F S16384x128 .f32 := broadcastInDim S16384x128 ![] bcast_S_S16384x128 main_cst
  let main_v1 : IVec S16384x128 1 := cmpf .ogt main_arg0 main_v0
  let main_cst_0 : FVec F S_ .f32 := constant S_ .f32 0x7F800000#32
  let main_v2 : FVec F S16384x128 .f32 := broadcastInDim S16384x128 ![] bcast_S_S16384x128 main_cst_0
  let main_v3 : IVec S16384x128 1 := cmpf .olt main_arg0 main_v2
  let main_v4 : IVec S16384x128 1 := andi main_v1 main_v3
  let main_c : IVec S_ 1 := constantI S_ 1 1#1
  let main_v5 : IVec S_ 1 := (fun x v => Host.reduce IntOp.andi x v reducesTo_S16384x128_S_d0_1 h_S_) main_v4 main_c
  let main_cst_1 : FVec F S_ .f32 := constant S_ .f32 0xFF800000#32
  let main_v6 : FVec F S2048x128 .f32 := broadcastInDim S2048x128 ![] bcast_S_S2048x128 main_cst_1
  let main_v7 : IVec S2048x128 1 := cmpf .ogt main_arg1 main_v6
  let main_cst_2 : FVec F S_ .f32 := constant S_ .f32 0x7F800000#32
  let main_v8 : FVec F S2048x128 .f32 := broadcastInDim S2048x128 ![] bcast_S_S2048x128 main_cst_2
  let main_v9 : IVec S2048x128 1 := cmpf .olt main_arg1 main_v8
  let main_v10 : IVec S2048x128 1 := andi main_v7 main_v9
  let main_c_3 : IVec S_ 1 := constantI S_ 1 1#1
  let main_v11 : IVec S_ 1 := (fun x v => Host.reduce IntOp.andi x v reducesTo_S2048x128_S_d0_1 h_S_) main_v10 main_c_3
  let main_v12 : IVec S_ 1 := andi main_v5 main_v11
  let main_cst_4 : FVec F S_ .f32 := constant S_ .f32 0xFF800000#32
  let main_v13 : FVec F S128x128 .f32 := broadcastInDim S128x128 ![] bcast_S_S128x128 main_cst_4
  let main_v14 : IVec S128x128 1 := cmpf .ogt main_arg4 main_v13
  let main_cst_5 : FVec F S_ .f32 := constant S_ .f32 0x7F800000#32
  let main_v15 : FVec F S128x128 .f32 := broadcastInDim S128x128 ![] bcast_S_S128x128 main_cst_5
  fn_part1 (F := F) main_arg2 main_arg3 main_arg4 main_arg5 main_v12 main_v14 main_v15
-- ==== Kernel.lean ====
abbrev S16384x128 : Shape := ⟨2, ![16384, 128]⟩
abbrev S2048x128 : Shape := ⟨2, ![2048, 128]⟩
abbrev S16384 : Shape := ⟨1, ![16384]⟩
abbrev S2048 : Shape := ⟨1, ![2048]⟩
abbrev S128x128 : Shape := ⟨2, ![128, 128]⟩
abbrev S16 : Shape := ⟨1, ![16]⟩
abbrev S1x2048 : Shape := ⟨2, ![1, 2048]⟩
abbrev S16x1 : Shape := ⟨2, ![16, 1]⟩
abbrev S16x2048 : Shape := ⟨2, ![16, 2048]⟩
abbrev S_ : Shape := ⟨0, ![]⟩
abbrev S8 : Shape := ⟨1, ![8]⟩
abbrev S8x1 : Shape := ⟨2, ![8, 1]⟩
abbrev S1x16 : Shape := ⟨2, ![1, 16]⟩
abbrev S8x16 : Shape := ⟨2, ![8, 16]⟩
abbrev S8x1x2048 : Shape := ⟨3, ![8, 1, 2048]⟩
abbrev S1x1x2048 : Shape := ⟨3, ![1, 1, 2048]⟩
abbrev S1 : Shape := ⟨1, ![1]⟩
abbrev S2048x1 : Shape := ⟨2, ![2048, 1]⟩
abbrev S256x128 : Shape := ⟨2, ![256, 128]⟩
abbrev S1x256 : Shape := ⟨2, ![1, 256]⟩
abbrev S2048x256 : Shape := ⟨2, ![2048, 256]⟩

abbrev nBuf : Space → Nat
  | .hbm => 91
  | .vmem => 13
  | .smem => 2
  | _ => 0

abbrev bufTy : (tb : Table) → Fin (tcTables nBuf tb) → BufTy
  | .hbm, ⟨0, _⟩ => ⟨S16384x128, .f32⟩
  | .hbm, ⟨1, _⟩ => ⟨S2048x128, .f32⟩
  | .hbm, ⟨2, _⟩ => ⟨S16384, .i32⟩
  | .hbm, ⟨3, _⟩ => ⟨S2048, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S16, .i32⟩
  | .hbm, ⟨8, _⟩ => ⟨S1x2048, .i32⟩
  | .hbm, ⟨9, _⟩ => ⟨S16x1, .i32⟩
  | .hbm, ⟨10, _⟩ => ⟨S16x2048, .i32⟩
  | .hbm, ⟨11, _⟩ => ⟨S16x2048, .i32⟩
  | .hbm, ⟨12, _⟩ => ⟨S16x2048, .i1⟩
  | .hbm, ⟨13, _⟩ => ⟨S16x2048, .i32⟩
  | .hbm, ⟨14, _⟩ => ⟨S_, .i32⟩
  | .hbm, ⟨15, _⟩ => ⟨S16, .i32⟩
  | .hbm, ⟨16, _⟩ => ⟨S1x2048, .i32⟩
  | .hbm, ⟨17, _⟩ => ⟨S16x1, .i32⟩
  | .hbm, ⟨18, _⟩ => ⟨S16x2048, .i32⟩
  | .hbm, ⟨19, _⟩ => ⟨S16x2048, .i32⟩
  | .hbm, ⟨20, _⟩ => ⟨S16x2048, .i1⟩
  | .hbm, ⟨21, _⟩ => ⟨S16x2048, .i32⟩
  | .hbm, ⟨22, _⟩ => ⟨S_, .i32⟩
  | .hbm, ⟨23, _⟩ => ⟨S16, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S1x16, .i32⟩
  | .hbm, ⟨28, _⟩ => ⟨S8x16, .i32⟩
  | .hbm, ⟨29, _⟩ => ⟨S8x16, .i32⟩
  | .hbm, ⟨30, _⟩ => ⟨S8x16, .i1⟩
  | .hbm, ⟨31, _⟩ => ⟨S8x16, .i32⟩
  | .hbm, ⟨32, _⟩ => ⟨S8x1, .i32⟩
  | .hbm, ⟨33, _⟩ => ⟨S1x16, .i32⟩
  | .hbm, ⟨34, _⟩ => ⟨S8x16, .i32⟩
  | .hbm, ⟨35, _⟩ => ⟨S8x16, .i32⟩
  | .hbm, ⟨36, _⟩ => ⟨S8x16, .i1⟩
  | .hbm, ⟨37, _⟩ => ⟨S8x16, .i32⟩
  | .hbm, ⟨38, _⟩ => ⟨S1x16, .i32⟩
  | .hbm, ⟨39, _⟩ => ⟨S8x16, .i32⟩
  | .hbm, ⟨40, _⟩ => ⟨S8x16, .i32⟩
  | .hbm, ⟨41, _⟩ => ⟨S_, .i32⟩
  | .hbm, ⟨42, _⟩ => ⟨S8, .i32⟩
  | .hbm, ⟨43, _⟩ => ⟨S1x16, .i32⟩
  | .hbm, ⟨44, _⟩ => ⟨S8x16, .i32⟩
  | .hbm, ⟨45, _⟩ => ⟨S8x16, .i32⟩
  | .hbm, ⟨46, _⟩ => ⟨S_, .i32⟩
  | .hbm, ⟨47, _⟩ => ⟨S8, .i32⟩
  | .hbm, ⟨48, _⟩ => ⟨S_, .i32⟩
  | .hbm, ⟨49, _⟩ => ⟨S_, .i32⟩
  | .hbm, ⟨50, _⟩ => ⟨S8, .i32⟩
  | .hbm, ⟨51, _⟩ => ⟨S8, .i32⟩
  | .hbm, ⟨52, _⟩ => ⟨S8, .i32⟩
  | .hbm, ⟨53, _⟩ => ⟨S_, .i32⟩
  | .hbm, ⟨54, _⟩ => ⟨S8, .i32⟩
  | .hbm, ⟨55, _⟩ => ⟨S8, .i1⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S8, .i32⟩
  | .hbm, ⟨60, _⟩ => ⟨S8, .i1⟩
  | .hbm, ⟨61, _⟩ => ⟨S8, .i1⟩
  | .hbm, ⟨62, _⟩ => ⟨S_, .i32⟩
  | .hbm, ⟨63, _⟩ => ⟨S8, .i32⟩
  | .hbm, ⟨64, _⟩ => ⟨S8, .i32⟩
  | .hbm, ⟨65, _⟩ => ⟨S_, .i32⟩
  | .hbm, ⟨66, _⟩ => ⟨S8, .i32⟩
  | .hbm, ⟨67, _⟩ => ⟨S8, .i32⟩
  | .hbm, ⟨68, _⟩ => ⟨S_, .i32⟩
  | .hbm, ⟨69, _⟩ => ⟨S8, .i32⟩
  | .hbm, ⟨70, _⟩ => ⟨S8, .i32⟩
  | .hbm, ⟨71, _⟩ => ⟨S_, .i32⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S8, .i32⟩
  | .hbm, ⟨76, _⟩ => ⟨S_, .i32⟩
  | .hbm, ⟨77, _⟩ => ⟨S8, .i32⟩
  | .hbm, ⟨78, _⟩ => ⟨S8, .i1⟩
  | .hbm, ⟨79, _⟩ => ⟨S8, .i32⟩
  | .hbm, ⟨80, _⟩ => ⟨S8, .i32⟩
  | .hbm, ⟨81, _⟩ => ⟨S_, .i32⟩
  | .hbm, ⟨82, _⟩ => ⟨S8, .i32⟩
  | .hbm, ⟨83, _⟩ => ⟨S8, .i1⟩
  | .hbm, ⟨84, _⟩ => ⟨S8, .i1⟩
  | .hbm, ⟨85, _⟩ => ⟨S_, .i32⟩
  | .hbm, ⟨86, _⟩ => ⟨S8, .i32⟩
  | .hbm, ⟨87, _⟩ => ⟨S8, .i32⟩
  | .hbm, ⟨88, _⟩ => ⟨S8x1x2048, .i32⟩
  | .hbm, ⟨89, _⟩ => ⟨S1x2048, .i32⟩
  | .hbm, ⟨90, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S1x1x2048, .i32⟩
  | .local _ .vmem, ⟨7, _⟩ => ⟨S1x1x2048, .i32⟩
  | .local _ .vmem, ⟨8, _⟩ => ⟨S1x2048, .i32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .smem, ⟨0, _⟩ => ⟨S8, .i32⟩
  | .local _ .smem, ⟨1, _⟩ => ⟨S8, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_2 : Ref sig .tc := ⟨.hbm, 46, rfl⟩
abbrev main_v36 : Ref sig .tc := ⟨.hbm, 47, rfl⟩
abbrev main_c_3 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v37 : Ref sig .tc := ⟨.smem, 0, rfl⟩
abbrev main_v42 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_v37.idx, main_v42.idx], fun | 0 => main_v37.names | 1 => main_v42.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
@[reducible] def k0_t1_loop (v4 : BitVec 32) (v6 : BitVec 32) : Scf.Loop 32 :=
  let v17 : BitVec 32 := Scalar.subi v6 v4
  let c1_i32 : BitVec 32 := 1#32
  let v19 : BitVec 32 := Scalar.divsi v17 c1_i32
  let v20 : BitVec 32 := Scalar.muli v19 c1_i32
  let v21 : BitVec 32 := Scalar.addi v4 v20
  let c1_i32_10 : BitVec 32 := 1#32
  ⟨v4, v21, c1_i32_10⟩

def k0_off2 (v4 : BitVec 32) (v6 : BitVec 32) (k0_t1 : Fin (k0_t1_loop v4 v6).trips) : Fin 2 → Nat :=
  let c1_i32_10 : BitVec 32 := 1#32
  let arg13 : BitVec 32 := Scf.iv v4 c1_i32_10 k0_t1
  let c256_i32 : BitVec 32 := 256#32
  let v38 : BitVec 32 := Scalar.muli arg13 c256_i32
  let v39 : Index := Scalar.indexCast v38
  let c0_18 : Index := 0#32
  ![v39.toNat, 0]
def k0_off3 (v4 : BitVec 32) (v6 : BitVec 32) (k0_t1 : Fin (k0_t1_loop v4 v6).trips) : Fin 2 → Nat :=
  let c0_20 : Index := 0#32
  let c1_i32_10 : BitVec 32 := 1#32
  let arg13 : BitVec 32 := Scf.iv v4 c1_i32_10 k0_t1
  let c256_i32 : BitVec 32 := 256#32
  let v38 : BitVec 32 := Scalar.muli arg13 c256_i32
  let v43 : Index := Scalar.indexCast v38
  ![0, v43.toNat]
@[reducible] def k0_t2_loop (v4 : BitVec 32) (v6 : BitVec 32) : Scf.Loop 32 :=
  let v17 : BitVec 32 := Scalar.subi v6 v4
  let c1_i32 : BitVec 32 := 1#32
  let v19 : BitVec 32 := Scalar.divsi v17 c1_i32
  let v20 : BitVec 32 := Scalar.muli v19 c1_i32
  let v21 : BitVec 32 := Scalar.addi v4 v20
  let v18 : BitVec 32 := Scalar.addi v4 v17
  let c1_i32_11 : BitVec 32 := 1#32
  ⟨v21, v18, c1_i32_11⟩
def k0_off4 (v4 : BitVec 32) (v6 : BitVec 32) (k0_t2 : Fin (k0_t2_loop v4 v6).trips) : Fin 2 → Nat :=
  let v17 : BitVec 32 := Scalar.subi v6 v4
  let c1_i32 : BitVec 32 := 1#32
  let v19 : BitVec 32 := Scalar.divsi v17 c1_i32
  let v20 : BitVec 32 := Scalar.muli v19 c1_i32
  let v21 : BitVec 32 := Scalar.addi v4 v20
  let c1_i32_11 : BitVec 32 := 1#32
  let arg13 : BitVec 32 := Scf.iv v21 c1_i32_11 k0_t2
  let c256_i32 : BitVec 32 := 256#32
  let v38 : BitVec 32 := Scalar.muli arg13 c256_i32
  let v39 : Index := Scalar.indexCast v38
  let c0_18 : Index := 0#32
  ![v39.toNat, 0]
def k0_off5 (v4 : BitVec 32) (v6 : BitVec 32) (k0_t2 : Fin (k0_t2_loop v4 v6).trips) : Fin 2 → Nat :=
  let c0_20 : Index := 0#32
  let v17 : BitVec 32 := Scalar.subi v6 v4
  let c1_i32 : BitVec 32 := 1#32
  let v19 : BitVec 32 := Scalar.divsi v17 c1_i32
  let v20 : BitVec 32 := Scalar.muli v19 c1_i32
  let v21 : BitVec 32 := Scalar.addi v4 v20
  let c1_i32_11 : BitVec 32 := 1#32
  let arg13 : BitVec 32 := Scf.iv v21 c1_i32_11 k0_t2
  let c256_i32 : BitVec 32 := 256#32
  let v38 : BitVec 32 := Scalar.muli arg13 c256_i32
  let v43 : Index := Scalar.indexCast v38
  ![0, v43.toNat]

def k0_chk1 (v4 : BitVec 32) (v6 : BitVec 32) : Prop :=
  ((k0_t1_loop v4 v6).OK) ∧
  (∀ k0_t1 : Fin (k0_t1_loop v4 v6).trips, ∀ a, (k0_off2 v4 v6 k0_t1) a + S256x128.size a ≤ S2048x128.size a) ∧
  (∀ k0_t1 : Fin (k0_t1_loop v4 v6).trips, ∀ a, (k0_off3 v4 v6 k0_t1) a + S1x256.size a ≤ S1x2048.size a) ∧
  ((k0_t2_loop v4 v6).OK) ∧
  (∀ k0_t2 : Fin (k0_t2_loop v4 v6).trips, ∀ a, (k0_off4 v4 v6 k0_t2) a + S256x128.size a ≤ S2048x128.size a) ∧
  (∀ k0_t2 : Fin (k0_t2_loop v4 v6).trips, ∀ a, (k0_off5 v4 v6 k0_t2) a + S1x256.size a ≤ S1x2048.size a)
theorem k0_t1_ok : ∀ (v4 : BitVec 32) (v6 : BitVec 32) (k0_hw1 : k0_chk1 v4 v6), (k0_t1_loop v4 v6).OK := fun v4 v6 k0_hw1 => k0_hw1.1
theorem k0_off2_inb : ∀ (v4 : BitVec 32) (v6 : BitVec 32) (k0_hw1 : k0_chk1 v4 v6) (k0_t1 : Fin (k0_t1_loop v4 v6).trips), ∀ a, (k0_off2 v4 v6 k0_t1) a + S256x128.size a ≤ S2048x128.size a := fun v4 v6 k0_hw1 k0_t1 => k0_hw1.2.1 k0_t1
theorem k0_off3_inb : ∀ (v4 : BitVec 32) (v6 : BitVec 32) (k0_hw1 : k0_chk1 v4 v6) (k0_t1 : Fin (k0_t1_loop v4 v6).trips), ∀ a, (k0_off3 v4 v6 k0_t1) a + S1x256.size a ≤ S1x2048.size a := fun v4 v6 k0_hw1 k0_t1 => k0_hw1.2.2.1 k0_t1
theorem k0_t2_ok : ∀ (v4 : BitVec 32) (v6 : BitVec 32) (k0_hw1 : k0_chk1 v4 v6), (k0_t2_loop v4 v6).OK := fun v4 v6 k0_hw1 => k0_hw1.2.2.2.1
theorem k0_off4_inb : ∀ (v4 : BitVec 32) (v6 : BitVec 32) (k0_hw1 : k0_chk1 v4 v6) (k0_t2 : Fin (k0_t2_loop v4 v6).trips), ∀ a, (k0_off4 v4 v6 k0_t2) a + S256x128.size a ≤ S2048x128.size a := fun v4 v6 k0_hw1 k0_t2 => k0_hw1.2.2.2.2.1 k0_t2
theorem k0_off5_inb : ∀ (v4 : BitVec 32) (v6 : BitVec 32) (k0_hw1 : k0_chk1 v4 v6) (k0_t2 : Fin (k0_t2_loop v4 v6).trips), ∀ a, (k0_off5 v4 v6 k0_t2) a + S1x256.size a ≤ S1x2048.size a := fun v4 v6 k0_hw1 k0_t2 => k0_hw1.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_sqrt_h" => some (((Real.sqrt 128)⁻¹ : ℝ) : EReal)
  | _ => none
-- ==== ReferenceIdeal.lean ====
abbrev S16384x128 : Shape := ⟨2, ![16384, 128]⟩
abbrev S2048x128 : Shape := ⟨2, ![2048, 128]⟩
abbrev S16384 : Shape := ⟨1, ![16384]⟩
abbrev S2048 : Shape := ⟨1, ![2048]⟩
abbrev S128x128 : Shape := ⟨2, ![128, 128]⟩
abbrev S_ : Shape := ⟨0, ![]⟩
abbrev S128x2048 : Shape := ⟨2, ![128, 2048]⟩
abbrev S16384x2048 : Shape := ⟨2, ![16384, 2048]⟩
abbrev S16384x1 : Shape := ⟨2, ![16384, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2048x128, .f32⟩
  | .hbm, ⟨2, _⟩ => ⟨S16384, .i32⟩
  | .hbm, ⟨3, _⟩ => ⟨S2048, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S_, .f32⟩
  | .hbm, ⟨8, _⟩ => ⟨S_, .f32⟩
  | .hbm, ⟨9, _⟩ => ⟨S16384x128, .f32⟩
  | .hbm, ⟨10, _⟩ => ⟨S2048x128, .f32⟩
  | .hbm, ⟨11, _⟩ => ⟨S2048x128, .f32⟩
  | .hbm, ⟨12, _⟩ => ⟨S128x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x1, .i32⟩
  | .hbm, ⟨17, _⟩ => ⟨S1x2048, .i32⟩
  | .hbm, ⟨18, _⟩ => ⟨S16384x2048, .i32⟩
  | .hbm, ⟨19, _⟩ => ⟨S16384x2048, .i32⟩
  | .hbm, ⟨20, _⟩ => ⟨S16384x2048, .i1⟩
  | .hbm, ⟨21, _⟩ => ⟨S_, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x128, .f32⟩
  | .hbm, ⟨40, _⟩ => ⟨S_, .i1⟩
  | .hbm, ⟨41, _⟩ => ⟨S16384, .i1⟩
  | .hbm, ⟨42, _⟩ => ⟨S16384x1, .i1⟩
  | .hbm, ⟨43, _⟩ => ⟨S_, .f32⟩
  | .hbm, ⟨44, _⟩ => ⟨S16384x128, .f32⟩
  | .hbm, ⟨45, _⟩ => ⟨S16384x128, .i1⟩
  | .hbm, ⟨46, _⟩ => ⟨S16384x128, .f32⟩
  | .hbm, ⟨47, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Words.lean ====
/- The host words before the launch, as pure functions: how many residues come before (or up to) each segment,
   the count a block's first (or last) row selects, and the division by the chunk length rounded down. -/
module

public import proofs.«01_k».proof.Defs
public import proofs.«01_k».proof.Proof.Gen.KernelIdeal
public import Idealize.ShloMosaic.Lib.ValueIdx
public import Idealize.ShloMosaic.Lib.Pipeline.Value
public import Idealize.ShloMosaic.PureOps.Reduce

@[expose] public section

noncomputable section

namespace Cert.Words

open Idealize.ShloMosaic Idealize.ShloMosaic.ValueIdx Cert.KernelIdeal

/-- A fold by wrapping addition has, as a number, the sum of its terms modulo two to the 32. -/
theorem toNat_fold_add {ι : Type} [DecidableEq ι] (S : Finset ι) (x : ι → BitVec 32) :
    (S.fold IntOp.addi 0#32 x).toNat = (∑ i ∈ S, (x i).toNat) % 2 ^ 32 := by
  induction S using Finset.cons_induction with
  | empty => simp
  | cons a S ha ih =>
    rw [Finset.fold_cons, Finset.sum_cons]
    show (x a + S.fold IntOp.addi 0#32 x).toNat = _
    rw [BitVec.toNat_add, ih]; omega

/-- A wrapping sum along the second axis of an n by m array, as a number. -/
theorem toNat_reduce_rows {n m : Nat} (x : IVec ⟨2, ![n, m]⟩ 32) (init : IVec S_ 32)
    (h : (⟨2, ![n, m]⟩ : Shape).ReducesTo [1] ⟨1, ![n]⟩) (hu : 0 < S_.numel) (h0 : ∀ j, init j = 0#32) (i : Fin n) :
    (Host.reduce IntOp.addi x init h hu (ix1 i)).toNat = (∑ j : Fin m, (x (ix2 i j)).toNat) % 2 ^ 32 := by
  rw [Host.reduce_eq_fold, h0, toNat_fold_add]
  congr 1
  have hd : ∀ k : (⟨2, ![n, m]⟩ : Shape).Idx, h.drop k = ix1 i ↔ k 0 = i := by
    intro k
    have e : (h.drop k 0 : Nat) = k 0 := h.drop_apply_val_of_eq k 0 0 (Nat.lt_of_lt_of_eq Nat.one_pos rfl) rfl
    constructor
    · intro hk; rw [hk] at e; exact Fin.ext e.symm
    · intro hk; funext b; fin_cases b; exact Fin.ext (e.trans (congrArg Fin.val hk))
  refine Finset.sum_bij' (fun k _ => k 1) (fun j _ => ix2 i j) ?_ ?_ ?_ ?_ ?_
  · intro k _; exact Finset.mem_univ _
  · intro j _; exact Finset.mem_filter.2 ⟨Finset.mem_univ _, (hd _).2 rfl⟩
  · intro k hk
    have := (hd k).1 (Finset.mem_filter.1 hk).2
    rw [← this]; exact (eq_ix2 k).symm
  · intro j _; rfl
  · intro k hk
    have := (hd k).1 (Finset.mem_filter.1 hk).2
    subst this; exact congrArg (fun k => (x k).toNat) (eq_ix2 k)

/-- For each of the sixteen segment numbers, the number of residues whose segment compares so with it. -/
def segCount (p : CmpIPredicate) (rb : IVec S2048 32) : IVec S16 32 :=
  Host.reduce IntOp.addi
    (extui 32 (cmpi p
      (broadcastInDim S16x2048 ![0, 1] Facts₀.bcast_S1x2048_S16x2048_0_1 (broadcastInDim S1x2048 ![1] Facts₀.bcast_S2048_S1x2048_1 rb))
      (broadcastInDim S16x2048 ![0, 1] Facts₀.bcast_S16x1_S16x2048_0_1 (broadcastInDim S16x1 ![0] Facts₀.bcast_S16_S16x1_0 (iotaInDim S16 32 0))))
      Facts₀.natLt_1_32)
    (constantI S_ 32 0#32) Facts₀.reducesTo_S16x2048_S16_d1 Facts₀.h_S_

/-- The count a block reads: of the sixteen counts, the one at the segment of the block's row named by `first`. -/
def pickAt (first : IVec S8 32) (seg : IVec S16 32) : IVec S8 32 :=
  Host.reduce IntOp.addi
    (muli
      (extui 32 (cmpi .eq
        (broadcastInDim S8x16 ![0, 1] Facts₀.bcast_S8x1_S8x16_0_1 (broadcastInDim S8x1 ![0] Facts₀.bcast_S8_S8x1_0 first))
        (broadcastInDim S8x16 ![0, 1] Facts₀.bcast_S1x16_S8x16_0_1 (broadcastInDim S1x16 ![1] Facts₀.bcast_S16_S1x16_1 (iotaInDim S16 32 0))))
        Facts₀.natLt_1_32)
      (broadcastInDim S8x16 ![0, 1] Facts₀.bcast_S1x16_S8x16_0_1 (broadcastInDim S1x16 ![1] Facts₀.bcast_S16_S1x16_1 seg)))
    (constantI S_ 32 0#32) Facts₀.reducesTo_S8x16_S8_d1 Facts₀.h_S_

/-- Division of eight words by one word, rounded down: the truncated quotient, less one where the signs differ and
    the remainder is not zero. -/
def floorDiv (x : IVec S8 32) (d : IVec S_ 32) : IVec S8 32 :=
  select
    (andi
      (cmpi .ne (signi x) (broadcastInDim S8 ![] Facts₀.bcast_S_S8 (signi d)))
      (cmpi .ne (Host.remsi x (broadcastInDim S8 ![] Facts₀.bcast_S_S8 d))
        (broadcastInDim S8 ![] Facts₀.bcast_S_S8 (constantI S_ 32 0#32))))
    (subi (Host.divsi x (broadcastInDim S8 ![] Facts₀.bcast_S_S8 d)) (broadcastInDim S8 ![] Facts₀.bcast_S_S8 (constantI S_ 32 1#32)))
    (Host.divsi x (broadcastInDim S8 ![] Facts₀.bcast_S_S8 d))

/-- The first chunk of residues each block visits. -/
def loChunk (ab : IVec S16384 32) (rb : IVec S2048 32) : IVec S8 32 :=
  floorDiv (pickAt (Host.slice S8 ![0] ![2048] ab Facts₀.slicesBy_S16384_S8_0s2048) (segCount .slt rb)) (constantI S_ 32 256#32)

/-- One more than the last chunk of residues each block visits. -/
def hiChunk (ab : IVec S16384 32) (rb : IVec S2048 32) : IVec S8 32 :=
  floorDiv
    (subi (addi (pickAt (Host.slice S8 ![2047] ![2048] ab Facts₀.slicesBy_S16384_S8_2047s2048) (segCount .sle rb))
      (broadcastInDim S8 ![] Facts₀.bcast_S_S8 (constantI S_ 32 256#32))) (broadcastInDim S8 ![] Facts₀.bcast_S_S8 (constantI S_ 32 1#32)))
    (constantI S_ 32 256#32)

/-- How many of the 2048 residues compare so with a segment number. -/
def countOf (p : CmpIPredicate) (rb : IVec S2048 32) (b : Nat) : Nat :=
  ∑ j : Fin 2048, if IntOp.cmpi p (rb (ix1 j)) (BitVec.ofNat 32 b) = 1#1 then 1 else 0

theorem countOf_le (p : CmpIPredicate) (rb : IVec S2048 32) (b : Nat) : countOf p rb b ≤ 2048 := by
  unfold countOf
  calc _ ≤ ∑ _j : Fin 2048, 1 := Finset.sum_le_sum fun j _ => by split_ifs <;> omega
    _ = 2048 := by simp

/-- A widened one-bit word is zero or one. -/
theorem toNat_bit (c : BitVec 1) : (c.setWidth 32).toNat = if c = 1#1 then 1 else 0 := by
  rcases BitVec.eq_zero_or_eq_one c with h | h <;> subst h <;> rfl

/-- The printed count at segment `b`, as a number. -/
theorem segCount_toNat (p : CmpIPredicate) (rb : IVec S2048 32) (b : Fin 16) :
    (segCount p rb (ix1 b)).toNat = countOf p rb b := by
  unfold segCount
  refine (toNat_reduce_rows (n := 16) (m := 2048) _ (constantI S_ 32 0#32) _ _ (fun _ => rfl) b).trans ?_
  have e : ∀ j : Fin 2048, (extui 32 (cmpi p
      (broadcastInDim S16x2048 ![0, 1] Facts₀.bcast_S1x2048_S16x2048_0_1 (broadcastInDim S1x2048 ![1] Facts₀.bcast_S2048_S1x2048_1 rb))
      (broadcastInDim S16x2048 ![0, 1] Facts₀.bcast_S16x1_S16x2048_0_1 (broadcastInDim S16x1 ![0] Facts₀.bcast_S16_S16x1_0 (iotaInDim S16 32 0))))
      Facts₀.natLt_1_32 (ix2 b j)).toNat = if IntOp.cmpi p (rb (ix1 j)) (BitVec.ofNat 32 b) = 1#1 then 1 else 0 := by
    intro j
    rw [extui_apply, toNat_bit]
    have e1 : broadcastInDim S16x2048 ![0, 1] Facts₀.bcast_S1x2048_S16x2048_0_1 (broadcastInDim S1x2048 ![1] Facts₀.bcast_S2048_S1x2048_1 rb) (ix2 b j) = rb (ix1 j) := by
      rw [broadcastInDim_apply _ _ _ _ (ix2 0 j) (fun a => by fin_cases a <;> rfl), broadcastInDim_apply _ _ _ _ (ix1 j) (fun a => by fin_cases a; rfl)]
    have e2 : broadcastInDim S16x2048 ![0, 1] Facts₀.bcast_S16x1_S16x2048_0_1 (broadcastInDim S16x1 ![0] Facts₀.bcast_S16_S16x1_0 (iotaInDim S16 32 0)) (ix2 b j) = BitVec.ofNat 32 b := by
      rw [broadcastInDim_apply _ _ _ _ (ix2 b 0) (fun a => by fin_cases a <;> rfl), broadcastInDim_apply _ _ _ _ (ix1 b) (fun a => by fin_cases a; rfl)]
      rfl
    show (if IntOp.cmpi p _ _ = 1#1 then 1 else 0) = _
    rw [e1, e2]
  rw [Finset.sum_congr rfl fun j _ => e j]
  exact Nat.mod_eq_of_lt (lt_of_le_of_lt (countOf_le p rb b) (by norm_num))

/-- The selected count, as a number: the sum of the counts at the segments equal to the row's. -/
theorem pickAt_toNat (first : IVec S8 32) (seg : IVec S16 32) (hs : ∀ b : Fin 16, (seg (ix1 b)).toNat ≤ 2048) (i : Fin 8) :
    (pickAt first seg (ix1 i)).toNat = ∑ b : Fin 16, if first (ix1 i) = BitVec.ofNat 32 b then (seg (ix1 b)).toNat else 0 := by
  unfold pickAt
  refine (toNat_reduce_rows (n := 8) (m := 16) _ (constantI S_ 32 0#32) _ _ (fun _ => rfl) i).trans ?_
  have e : ∀ b : Fin 16, (muli
      (extui 32 (cmpi .eq
        (broadcastInDim S8x16 ![0, 1] Facts₀.bcast_S8x1_S8x16_0_1 (broadcastInDim S8x1 ![0] Facts₀.bcast_S8_S8x1_0 first))
        (broadcastInDim S8x16 ![0, 1] Facts₀.bcast_S1x16_S8x16_0_1 (broadcastInDim S1x16 ![1] Facts₀.bcast_S16_S1x16_1 (iotaInDim S16 32 0))))
        Facts₀.natLt_1_32)
      (broadcastInDim S8x16 ![0, 1] Facts₀.bcast_S1x16_S8x16_0_1 (broadcastInDim S1x16 ![1] Facts₀.bcast_S16_S1x16_1 seg)) (ix2 i b)).toNat
        = if first (ix1 i) = BitVec.ofNat 32 b then (seg (ix1 b)).toNat else 0 := by
    intro b
    have e1 : broadcastInDim S8x16 ![0, 1] Facts₀.bcast_S8x1_S8x16_0_1 (broadcastInDim S8x1 ![0] Facts₀.bcast_S8_S8x1_0 first) (ix2 i b) = first (ix1 i) := by
      rw [broadcastInDim_apply _ _ _ _ (ix2 i 0) (fun a => by fin_cases a <;> rfl), broadcastInDim_apply _ _ _ _ (ix1 i) (fun a => by fin_cases a; rfl)]
    have e2 : ∀ v : IVec S16 32, broadcastInDim S8x16 ![0, 1] Facts₀.bcast_S1x16_S8x16_0_1 (broadcastInDim S1x16 ![1] Facts₀.bcast_S16_S1x16_1 v) (ix2 i b) = v (ix1 b) := by
      intro v
      rw [broadcastInDim_apply _ _ _ _ (ix2 0 b) (fun a => by fin_cases a <;> rfl), broadcastInDim_apply _ _ _ _ (ix1 b) (fun a => by fin_cases a; rfl)]
    show (IntOp.muli ((IntOp.cmpi .eq _ _).setWidth 32) _).toNat = _
    rw [e1, e2, e2]
    show (((IntOp.cmpi .eq (first (ix1 i)) (BitVec.ofNat 32 b)).setWidth 32) * seg (ix1 b)).toNat = _
    rw [BitVec.toNat_mul, toNat_bit]
    have hb : IntOp.cmpi .eq (first (ix1 i)) (BitVec.ofNat 32 b) = 1#1 ↔ first (ix1 i) = BitVec.ofNat 32 b := by
      simp only [IntOp.cmpi]
      by_cases hh : first (ix1 i) = BitVec.ofNat 32 b
      · simp [hh]
      · rw [beq_eq_false_iff_ne.2 hh]; simp [hh]
    have := (seg (ix1 b)).isLt
    by_cases hh : first (ix1 i) = BitVec.ofNat 32 b
    · rw [if_pos (hb.2 hh), if_pos hh]; omega
    · rw [if_neg (fun h => hh (hb.1 h)), if_neg hh]; simp
  rw [Finset.sum_congr rfl fun b _ => e b]
  refine Nat.mod_eq_of_lt (lt_of_le_of_lt (Finset.sum_le_card_nsmul _ _ 2048 fun b _ => ?_) (by simp))
  split_ifs
  · exact hs b
  · omega

/-- The selected count is the count at the row's segment, or zero where that is no segment number. -/
theorem pickAt_eq (first : IVec S8 32) (seg : IVec S16 32) (hs : ∀ b : Fin 16, (seg (ix1 b)).toNat ≤ 2048) (i : Fin 8) :
    (pickAt first seg (ix1 i)).toNat = if h : (first (ix1 i)).toNat < 16 then (seg (ix1 ⟨_, h⟩)).toNat else 0 := by
  rw [pickAt_toNat first seg hs]
  have key : ∀ b : Fin 16, first (ix1 i) = BitVec.ofNat 32 b ↔ (first (ix1 i)).toNat = b := by
    intro b
    rw [← BitVec.toNat_inj, BitVec.toNat_ofNat, Nat.mod_eq_of_lt (by have := b.isLt; omega)]
  split_ifs with h
  · rw [Finset.sum_eq_single (⟨_, h⟩ : Fin 16)]
    · rw [if_pos ((key _).2 rfl)]
    · intro b _ hb
      exact if_neg fun hh => hb (Fin.ext ((key b).1 hh).symm)
    · intro hh; exact absurd (Finset.mem_univ _) hh
  · refine Finset.sum_eq_zero fun b _ => if_neg fun hh => h ?_
    rw [(key b).1 hh]; exact b.isLt

/-- Rounding down by 256 of a word that is not negative is the natural quotient. -/
theorem floorDiv_word (x : BitVec 32) (hx : x.toNat < 2 ^ 31) :
    (Scalar.select (IntOp.andi
        (IntOp.cmpi .ne (if x = 0 then (0 : BitVec 32) else if x.msb then -1 else 1)
          (if (256#32 : BitVec 32) = 0 then (0 : BitVec 32) else if (256#32 : BitVec 32).msb then -1 else 1))
        (IntOp.cmpi .ne (IntOp.remsi .host x 256#32) 0#32))
      (IntOp.subi (IntOp.divsi .host x 256#32) 1#32) (IntOp.divsi .host x 256#32)).toNat = x.toNat / 256 := by
  have hm : x.msb = false := by rw [BitVec.msb_eq_false_iff_two_mul_lt]; omega
  have hc : ¬ IntOp.SDivCorner x 256#32 := by
    unfold IntOp.SDivCorner; simp
  have hq : IntOp.divsi .host x 256#32 = x / 256#32 := by
    unfold IntOp.divsi; rw [if_neg hc, BitVec.sdiv_eq, hm]; rfl
  have hr : IntOp.remsi .host x 256#32 = x % 256#32 := by
    unfold IntOp.remsi; rw [if_neg hc, BitVec.srem_eq, hm]; rfl
  rw [hq, hr, hm]
  have hd : (x / 256#32).toNat = x.toNat / 256 := by rw [BitVec.toNat_udiv]; rfl
  by_cases h0 : x = 0
  · subst h0; decide
  · rw [if_neg h0]
    have : IntOp.cmpi .ne (if (false : Bool) then (-1 : BitVec 32) else 1)
          (if (256#32 : BitVec 32) = 0 then (0 : BitVec 32) else if (256#32 : BitVec 32).msb then -1 else 1) = 0#1 := by decide
    rw [this]
    have hz : ∀ c : BitVec 1, IntOp.andi 0#1 c = 0#1 := by decide
    rw [hz]
    exact hd

theorem floorDiv_toNat (x : IVec S8 32) (i : Fin 8) (hx : (x (ix1 i)).toNat < 2 ^ 31) :
    (floorDiv x (constantI S_ 32 256#32) (ix1 i)).toNat = (x (ix1 i)).toNat / 256 :=
  floorDiv_word (x (ix1 i)) hx

/-- The number of residues before the segment of block `i`'s first row. -/
def startOf (ab : IVec S16384 32) (rb : IVec S2048 32) (i : Fin 8) : Nat :=
  if (ab (ix1 ⟨2048 * i, by omega⟩)).toNat < 16 then countOf .slt rb (ab (ix1 ⟨2048 * i, by omega⟩)).toNat else 0

/-- The number of residues up to the segment of block `i`'s last row. -/
def endOf (ab : IVec S16384 32) (rb : IVec S2048 32) (i : Fin 8) : Nat :=
  if (ab (ix1 ⟨2048 * i + 2047, by omega⟩)).toNat < 16 then countOf .sle rb (ab (ix1 ⟨2048 * i + 2047, by omega⟩)).toNat else 0

theorem startOf_le (ab : IVec S16384 32) (rb : IVec S2048 32) (i : Fin 8) : startOf ab rb i ≤ 2048 := by
  unfold startOf; split_ifs
  · exact countOf_le ..
  · omega

theorem endOf_le (ab : IVec S16384 32) (rb : IVec S2048 32) (i : Fin 8) : endOf ab rb i ≤ 2048 := by
  unfold endOf; split_ifs
  · exact countOf_le ..
  · omega

/-- The first chunk is the start count over 256, rounded down. -/
theorem loChunk_toNat (ab : IVec S16384 32) (rb : IVec S2048 32) (i : Fin 8) :
    (loChunk ab rb (ix1 i)).toNat = startOf ab rb i / 256 := by
  have hs : ∀ b : Fin 16, (segCount .slt rb (ix1 b)).toNat ≤ 2048 := fun b => by
    rw [segCount_toNat]; exact countOf_le ..
  have e : (pickAt (Host.slice S8 ![0] ![2048] ab Facts₀.slicesBy_S16384_S8_0s2048) (segCount .slt rb) (ix1 i)).toNat = startOf ab rb i := by
    rw [pickAt_eq _ _ hs]
    have e0 : Host.slice S8 ![0] ![2048] ab Facts₀.slicesBy_S16384_S8_0s2048 (ix1 i) = ab (ix1 ⟨2048 * i, by omega⟩) := by
      unfold Host.slice
      refine congrArg ab (funext fun a => Fin.ext ?_)
      fin_cases a
      show 0 + 2048 * i.val = 2048 * i.val
      omega
    unfold startOf
    simp only [e0, segCount_toNat]
    split_ifs <;> rfl
  have hle := startOf_le ab rb i
  unfold loChunk
  rw [floorDiv_toNat _ _ (by rw [e]; omega), e]

/-- The end chunk is the end count over 256, rounded up. -/
theorem hiChunk_toNat (ab : IVec S16384 32) (rb : IVec S2048 32) (i : Fin 8) :
    (hiChunk ab rb (ix1 i)).toNat = (endOf ab rb i + 255) / 256 := by
  have hs : ∀ b : Fin 16, (segCount .sle rb (ix1 b)).toNat ≤ 2048 := fun b => by
    rw [segCount_toNat]; exact countOf_le ..
  have e : (pickAt (Host.slice S8 ![2047] ![2048] ab Facts₀.slicesBy_S16384_S8_2047s2048) (segCount .sle rb) (ix1 i)).toNat = endOf ab rb i := by
    rw [pickAt_eq _ _ hs]
    have e0 : Host.slice S8 ![2047] ![2048] ab Facts₀.slicesBy_S16384_S8_2047s2048 (ix1 i) = ab (ix1 ⟨2048 * i + 2047, by omega⟩) := by
      unfold Host.slice
      refine congrArg ab (funext fun a => Fin.ext ?_)
      fin_cases a
      show 2047 + 2048 * i.val = 2048 * i.val + 2047
      omega
    unfold endOf
    simp only [e0, segCount_toNat]
    split_ifs <;> rfl
  have hle := endOf_le ab rb i
  have e2 : ((subi (addi (pickAt (Host.slice S8 ![2047] ![2048] ab Facts₀.slicesBy_S16384_S8_2047s2048) (segCount .sle rb))
      (broadcastInDim S8 ![] Facts₀.bcast_S_S8 (constantI S_ 32 256#32))) (broadcastInDim S8 ![] Facts₀.bcast_S_S8 (constantI S_ 32 1#32))) (ix1 i)).toNat
        = endOf ab rb i + 255 := by
    show (pickAt _ _ (ix1 i) + 256#32 - 1#32).toNat = _
    rw [BitVec.toNat_sub, BitVec.toNat_add, e]
    show (2 ^ 32 - 1 + (endOf ab rb i + 256) % 2 ^ 32) % 2 ^ 32 = _
    omega
  unfold hiChunk
  rw [floorDiv_toNat _ _ (by rw [e2]; omega), e2]

theorem loChunk_le (ab : IVec S16384 32) (rb : IVec S2048 32) (i : Fin 8) : (loChunk ab rb (ix1 i)).toNat ≤ 8 := by
  have := startOf_le ab rb i
  rw [loChunk_toNat]; omega

theorem hiChunk_le (ab : IVec S16384 32) (rb : IVec S2048 32) (i : Fin 8) : (hiChunk ab rb (ix1 i)).toNat ≤ 8 := by
  have := endOf_le ab rb i
  rw [hiChunk_toNat]; omega

end Cert.Words
-- ==== Proof.Tables.lean ====
/- What the two tables handed to the launch hold, and the launch's two index arrays: the host words of Words.lean of
   the segment numbers. -/
module

public import proofs.«01_k».proof.Defs
public import proofs.«01_k».proof.Proof.Words
public import proofs.«01_k».proof.Proof.Gen.KernelIdeal.Frame

@[expose] public section

noncomputable section

namespace Cert.KernelIdeal.Tables

open Idealize.ShloMosaic Idealize.ShloMosaic.ValueIdx Idealize.ShloMosaic.TcCoe Idealize.ShloMosaic.StableHlo Cert.KernelIdeal Cert.KernelIdeal.Gen

variable {F : FTy → Type} [FloatOps F] [Named F]

/-- The first table holds the first chunk each block visits. -/
theorem V_lo (m : (ℓ : Loc nD τ sig) → Buf (Elt F) ℓ) (c : Dev nD) :
    V m c main_v37 = Words.loChunk (m ((c : Thread nD τ).loc main_arg2)) (m ((c : Thread nD τ).loc main_arg3)) := by
  unfold V
  simp only [List.flatten_cons, List.flatten_nil, List.append_nil, List.cons_append, List.nil_append, TRef.nullary, TRef.binary, TRef.ternary, TRef.unary, TRef.toBuf, TRef.ofBuf, cast_eq]
  after_results_simp <;> rfl

/-- The second table holds one more than the last chunk each block visits. -/
theorem V_hi (m : (ℓ : Loc nD τ sig) → Buf (Elt F) ℓ) (c : Dev nD) :
    V m c main_v42 = Words.hiChunk (m ((c : Thread nD τ).loc main_arg2)) (m ((c : Thread nD τ).loc main_arg3)) := by
  unfold V
  simp only [List.flatten_cons, List.flatten_nil, List.append_nil, List.cons_append, List.nil_append, TRef.nullary, TRef.binary, TRef.ternary, TRef.unary, TRef.toBuf, TRef.ofBuf, cast_eq]
  after_results_simp <;> rfl

/-- The rows' segment numbers as the launch reads them, eight blocks of 2048. -/
theorem V_ab (m : (ℓ : Loc nD τ sig) → Buf (Elt F) ℓ) (c : Dev nD) :
    V m c main_v43 = shapeCast S8x1x2048 (m ((c : Thread nD τ).loc main_arg2)) shapeCasts_S16384_S8x1x2048 := by
  unfold V
  simp only [List.flatten_cons, List.flatten_nil, List.append_nil, List.cons_append, List.nil_append, TRef.nullary, TRef.binary, TRef.ternary, TRef.unary, TRef.toBuf, TRef.ofBuf, cast_eq]
  after_results_simp <;> rfl

/-- The residues' segment numbers as the launch reads them, one row of 2048. -/
theorem V_rb (m : (ℓ : Loc nD τ sig) → Buf (Elt F) ℓ) (c : Dev nD) :
    V m c main_v44 = shapeCast S1x2048 (m ((c : Thread nD τ).loc main_arg3)) shapeCasts_S2048_S1x2048 := by
  unfold V
  simp only [List.flatten_cons, List.flatten_nil, List.append_nil, List.cons_append, List.nil_append, TRef.nullary, TRef.binary, TRef.ternary, TRef.unary, TRef.toBuf, TRef.ofBuf, cast_eq]
  after_results_simp <;> rfl

/-- Chunk bounds between zero and eight satisfy everything the body assumes of them: its loops are well formed and
    every chunk they name lies inside the arrays. -/
theorem chk_fin : ∀ a b : Fin 9, k0_chk1 (BitVec.ofNat 32 a) (BitVec.ofNat 32 b) := by decide +kernel

theorem chk_of_le (v4 v6 : BitVec 32) (h4 : v4.toNat ≤ 8) (h6 : v6.toNat ≤ 8) : k0_chk1 v4 v6 := by
  have h := chk_fin ⟨v4.toNat, by omega⟩ ⟨v6.toNat, by omega⟩
  simpa only [BitVec.ofNat_toNat, BitVec.setWidth_eq] using h

/-- The one word read through the rectangle at a grid point's number is the table's word at that number. -/
theorem emb_word (i : grid0.Coords) :
    (Rect.unit (s := S8) (k0_off1 i) S1.size (k0_off1_inb i)).toLoadRect.idx (Shape.Idx.first (numel1_S1.symm ▸ Nat.one_pos))
      = ix1 (i 0) := by
  funext a
  fin_cases a
  refine Fin.ext ?_
  show k0_off1 i 0 + 1 * 0 = (i 0).val
  rw [k0_off1_eq]; rfl

/-- The word of the first table the body reads at a grid point. -/
theorem word_lo (c : Dev nD) (i : grid0.Coords) (g : TbBuf0 (F := F) c tbM0_0) :
    tbM0_0.view.readAt (Elt F) (Rect.unit (s := S8) (k0_off1 i) S1.size (k0_off1_inb i)).toLoadRect g
      (Shape.Idx.first (numel1_S1.symm ▸ Nat.one_pos)) = g (ix1 (i 0)) := by
  rw [View.readAt_apply, emb_word]; rfl

/-- The word of the second table the body reads at a grid point. -/
theorem word_hi (c : Dev nD) (i : grid0.Coords) (g : TbBuf0 (F := F) c tbM0_1) :
    tbM0_1.view.readAt (Elt F) (Rect.unit (s := S8) (k0_off1 i) S1.size (k0_off1_inb i)).toLoadRect g
      (Shape.Idx.first (numel1_S1.symm ▸ Nat.one_pos)) = g (ix1 (i 0)) := by
  rw [View.readAt_apply, emb_word]; rfl

/-- The first table's contents at launch. -/
theorem tbl_lo (m : (ℓ : Loc nD τ sig) → Buf (Elt F) ℓ) :
    tbl m 0 = Words.loChunk (m (((0 : Dev nD) : Thread nD τ).loc main_arg2)) (m (((0 : Dev nD) : Thread nD τ).loc main_arg3)) := V_lo m 0

/-- The second table's contents at launch. -/
theorem tbl_hi (m : (ℓ : Loc nD τ sig) → Buf (Elt F) ℓ) :
    tbl m 1 = Words.hiChunk (m (((0 : Dev nD) : Thread nD τ).loc main_arg2)) (m (((0 : Dev nD) : Thread nD τ).loc main_arg3)) := V_hi m 0

/-- What the body assumes of the words it reads holds at every point, whatever the arguments. -/
theorem hyps (m : (ℓ : Loc nD τ sig) → Buf (Elt F) ℓ) (hO : Ok m) : Hyps m hO := by
  refine Hyps.of fun c t => chk_of_le _ _ ?_ ?_
  · exact (congrArg BitVec.toNat ((word_lo (F := F) c (grid0.coords t) (tbl m 0)).trans (congrFun (tbl_lo m) _))).le.trans (Words.loChunk_le _ _ _)
  · exact (congrArg BitVec.toNat ((word_hi (F := F) c (grid0.coords t) (tbl m 1)).trans (congrFun (tbl_hi m) _))).le.trans (Words.hiChunk_le _ _ _)

end Cert.KernelIdeal.Tables
-- ==== Proof.Frames.lean ====
/- The frames — every run ends, with the arguments unchanged and every counter back at zero — of the kernel as written,
   of its idealization and of the reference; and the kernel's one named constant. -/
module

public import proofs.«01_k».proof.Defs
public import proofs.«01_k».proof.Proof.Tables
public import proofs.«01_k».proof.Proof.TablesWritten
public import proofs.«01_k».proof.Proof.Gen.ReferenceIdeal.Run
public import proofs.«01_k».proof.Proof.Gen.Pre_inputs_tame
public import Idealize.ShloMosaic.PureOps.IdealRules

@[expose] public section

noncomputable section

namespace Cert.Frames

open Idealize.ShloMosaic Idealize.SL.Sem

/-- The kernel as written ends with its arguments unchanged. -/
theorem kernel : Cert.quiescent_Kernel := fun m ρ _ =>
  Cert.Kernel.Gen.frame m ρ trivial (Cert.Kernel.Tables.hyps m trivial)

/-- The idealized kernel ends with its arguments unchanged. -/
theorem kernelIdeal : Cert.quiescent_KernelIdeal := fun m ρ _ =>
  Cert.KernelIdeal.Gen.frame m ρ trivial (Cert.KernelIdeal.Tables.hyps m trivial)

/-- The same under the precondition of the value claim. -/
theorem kernelIdealTame : Cert.quiescent_KernelIdeal_pre_inputs_tame := fun m ρ _ =>
  Cert.KernelIdeal.Gen.frame m ρ trivial (Cert.KernelIdeal.Tables.hyps m trivial)

/-- The reference ends with its arguments unchanged. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same under the precondition of the value claim. -/
theorem referenceIdealTame : Cert.quiescent_ReferenceIdeal_pre_inputs_tame := fun m ρ _ =>
  (θ_run Cert.ReferenceIdeal.defs _ _).mono (fun r h => ⟨fun c => (h c).2, sem_eq_zero_of_no_sems (by decide) r.2⟩)
    (Cert.ReferenceIdeal.Value.run m ρ)

/-- The kernel's rounded literal is named as the reciprocal of the root of 128. -/
theorem preserves : Cert.preserves_Kernel_KernelIdeal :=
  IdealRules.named_const.statement Cert.KernelIdeal.κ "inv_sqrt_h" .f32 0x3DB504F3#32 (((Real.sqrt 128)⁻¹ : ℝ) : EReal) rfl

end Cert.Frames
-- ==== Proof.Trip.lean ====
/- One trip of the body's loop over chunks of residues, and the loop's carried pair, as pure functions. -/
module

public import proofs.«01_k».proof.Defs
public import proofs.«01_k».proof.Proof.Gen.KernelIdeal.Frame

@[expose] public section

noncomputable section

namespace Cert.KernelIdeal.Block

open Idealize.ShloMosaic Idealize.ShloMosaic.TcCoe Idealize.SL.Sem Cert.KernelIdeal Cert.KernelIdeal.Gen

variable {F : FTy → Type} [FloatOps F] [Named F]

unseal trip_k0_t1 in
/-- One trip adds the chunk's weights to the row sums and the weighted values to the accumulators. -/
theorem tripR_eq (𝒱 : Variants) (c : Dev nD) (bd : Option 𝒱.V) (i : grid0.Coords) (arg1 : Memref sig .tc .smem S8 .i32) (harg1 : arg1.IsWhole) (arg2 : Memref sig .tc .smem S8 .i32) (harg2 : arg2.IsWhole) (arg3 : Memref sig .tc .vmem S2048x128 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x2048 .i32) (harg8 : arg8.IsWhole) (arg9 : Memref sig .tc .vmem S1x2048 .i32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (v4 : Elt F .i32) (v6 : Elt F .i32) (k0_hw1 : k0_chk1 v4 v6) (v7 : Vec F S2048x128 .f32) (v8 : Vec F S128x128 .f32) (v12 : Vec F S1x1x2048 .i32) (X_arg9 : BufTy.Contents (Elt F) arg9.view.ty) (X_arg11 : BufTy.Contents (Elt F) arg11.view.ty) (X_arg12 : BufTy.Contents (Elt F) arg12.view.ty) (k : Fin (k0_t1_loop v4 v6).trips) (acc : FVec F S2048x1 .f32 × FVec F S2048x128 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 k acc
      = (k0_pay8 v7 v8 v12 acc.1
          (arg11.view.readAt (Elt F) (Rect.unit (s := S2048x128) (k0_off2 v4 v6 k) S256x128.size (k0_off2_inb v4 v6 k0_hw1 k)).toLoadRect X_arg11)
          (arg9.view.readAt (Elt F) (Rect.unit (s := S1x2048) (k0_off3 v4 v6 k) S1x256.size (k0_off3_inb v4 v6 k0_hw1 k)).toLoadRect X_arg9),
         k0_pay9 v7 v8 v12 acc.2
          (arg11.view.readAt (Elt F) (Rect.unit (s := S2048x128) (k0_off2 v4 v6 k) S256x128.size (k0_off2_inb v4 v6 k0_hw1 k)).toLoadRect X_arg11)
          (arg12.view.readAt (Elt F) (Rect.unit (s := S2048x128) (k0_off2 v4 v6 k) S256x128.size (k0_off2_inb v4 v6 k0_hw1 k)).toLoadRect X_arg12)
          (arg9.view.readAt (Elt F) (Rect.unit (s := S1x2048) (k0_off3 v4 v6 k) S1x256.size (k0_off3_inb v4 v6 k0_hw1 k)).toLoadRect X_arg9)) := rfl

/-- The 256 residues' rows that trip `k` reads out of an array of 2048 rows. -/
def rowsAt (X : Vec F S2048x128 .f32) (v4 v6 : Elt F .i32) (hw : k0_chk1 v4 v6) (k : Fin (k0_t1_loop v4 v6).trips) : Vec F S256x128 .f32 :=
  View.ld X (Rect.unit (s := S2048x128) (k0_off2 v4 v6 k) S256x128.size (k0_off2_inb v4 v6 hw k))

/-- The 256 residues' batch indices that trip `k` reads. -/
def idsAt (X : Vec F S1x2048 .i32) (v4 v6 : Elt F .i32) (hw : k0_chk1 v4 v6) (k : Fin (k0_t1_loop v4 v6).trips) : Vec F S1x256 .i32 :=
  View.ld X (Rect.unit (s := S1x2048) (k0_off3 v4 v6 k) S1x256.size (k0_off3_inb v4 v6 hw k))

/-- The pair the loop carries before trip `n`: the row sums of the weights, and the weighted sums of the values. -/
def pairAt (v4 v6 : Elt F .i32) (hw : k0_chk1 v4 v6) (v7 : Vec F S2048x128 .f32) (v8 : Vec F S128x128 .f32) (v12 : Vec F S1x1x2048 .i32)
    (rb : Vec F S1x2048 .i32) (K V : Vec F S2048x128 .f32) : ℕ → FVec F S2048x1 .f32 × FVec F S2048x128 .f32
  | 0 => (k0_pay5, k0_pay6)
  | n + 1 =>
    if h : n < (k0_t1_loop v4 v6).trips then
      (k0_pay8 v7 v8 v12 (pairAt v4 v6 hw v7 v8 v12 rb K V n).1 (rowsAt K v4 v6 hw ⟨n, h⟩) (idsAt rb v4 v6 hw ⟨n, h⟩),
       k0_pay9 v7 v8 v12 (pairAt v4 v6 hw v7 v8 v12 rb K V n).2 (rowsAt K v4 v6 hw ⟨n, h⟩) (rowsAt V v4 v6 hw ⟨n, h⟩) (idsAt rb v4 v6 hw ⟨n, h⟩))
    else pairAt v4 v6 hw v7 v8 v12 rb K V n

/-- The pair the generated loop carries is `pairAt` of what its buffers hold. -/
theorem st_eq (𝒱 : Variants) (c : Dev nD) (bd : Option 𝒱.V) (i : grid0.Coords) (arg1 : Memref sig .tc .smem S8 .i32) (harg1 : arg1.IsWhole) (arg2 : Memref sig .tc .smem S8 .i32) (harg2 : arg2.IsWhole) (arg3 : Memref sig .tc .vmem S2048x128 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x2048 .i32) (harg8 : arg8.IsWhole) (arg9 : Memref sig .tc .vmem S1x2048 .i32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (v4 : Elt F .i32) (v6 : Elt F .i32) (k0_hw1 : k0_chk1 v4 v6) (v7 : Vec F S2048x128 .f32) (v8 : Vec F S128x128 .f32) (v12 : Vec F S1x1x2048 .i32) (X_arg9 : BufTy.Contents (Elt F) arg9.view.ty) (X_arg11 : BufTy.Contents (Elt F) arg11.view.ty) (X_arg12 : BufTy.Contents (Elt F) arg12.view.ty) (n : ℕ) :
    st_k0_t1 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 (k0_pay5, k0_pay6) n
      = pairAt v4 v6 k0_hw1 v7 v8 v12 (arg9.view.read (Elt F) X_arg9) (arg11.view.read (Elt F) X_arg11) (arg12.view.read (Elt F) X_arg12) n := by
  induction n with
  | zero => rfl
  | succ n ih =>
    show st_k0_t1Step 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 (k0_pay5, k0_pay6) n (st_k0_t1 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 (k0_pay5, k0_pay6) n) = _
    unfold st_k0_t1Step pairAt
    by_cases h : n < (k0_t1_loop v4 v6).trips
    · rw [dif_pos h, dif_pos h, ih]
      exact tripR_eq 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 ⟨n, h⟩ _
    · rw [dif_neg h, dif_neg h, ih]

/-- The body's second loop makes no trip, so what it leaves is the first loop's last pair. -/
theorem final_eq (𝒱 : Variants) (c : Dev nD) (bd : Option 𝒱.V) (i : grid0.Coords) (arg1 : Memref sig .tc .smem S8 .i32) (harg1 : arg1.IsWhole) (arg2 : Memref sig .tc .smem S8 .i32) (harg2 : arg2.IsWhole) (arg3 : Memref sig .tc .vmem S2048x128 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x2048 .i32) (harg8 : arg8.IsWhole) (arg9 : Memref sig .tc .vmem S1x2048 .i32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (v4 : Elt F .i32) (v6 : Elt F .i32) (k0_hw1 : k0_chk1 v4 v6) (v7 : Vec F S2048x128 .f32) (v8 : Vec F S128x128 .f32) (v12 : Vec F S1x1x2048 .i32) (X_arg9 : BufTy.Contents (Elt F) arg9.view.ty) (X_arg11 : BufTy.Contents (Elt F) arg11.view.ty) (X_arg12 : BufTy.Contents (Elt F) arg12.view.ty)
    (rb : Vec F S1x2048 .i32) (K V : Vec F S2048x128 .f32)
    (e9 : arg9.view.read (Elt F) X_arg9 = rb) (e11 : arg11.view.read (Elt F) X_arg11 = K) (e12 : arg12.view.read (Elt F) X_arg12 = V)
    (h2 : (k0_t2_loop v4 v6).trips = 0) :
    st_k0_t2 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 (st_k0_t1 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 (k0_pay5, k0_pay6) (k0_t1_loop v4 v6).trips) (k0_t2_loop v4 v6).trips
      = pairAt v4 v6 k0_hw1 v7 v8 v12 rb K V (k0_t1_loop v4 v6).trips := by
  subst e9 e11 e12
  rw [h2]
  exact st_eq 𝒱 c bd i arg1 harg1 arg2 harg2 arg3 harg3 arg4 harg4 arg5 harg5 arg6 harg6 arg7 harg7 arg8 harg8 arg9 harg9 arg10 harg10 arg11 harg11 arg12 harg12 v4 v6 k0_hw1 v7 v8 v12 X_arg9 X_arg11 X_arg12 _

end Cert.KernelIdeal.Block
-- ==== Proof.Block.lean ====
/- What one grid point's body leaves in its output block and in the two arrays it carries. -/
module

public import proofs.«01_k».proof.Proof.Trip
public import Idealize.ShloMosaic.Lib.Pipeline.Value

@[expose] public section

noncomputable section

namespace Cert.KernelIdeal.Block

open Idealize.ShloMosaic Idealize.ShloMosaic.TcCoe Idealize.SL.Sem Idealize.ShloMosaic.Tactic Cert.KernelIdeal Cert.KernelIdeal.Gen

variable {F : FTy → Type} [FloatOps F] [Named F]

theorem zero2 : (![0, 0] : Fin 2 → ℕ) = fun _ => 0 := by funext a; fin_cases a <;> rfl

theorem zero3 : (![0, 0, 0] : Fin 3 → ℕ) = fun _ => 0 := by funext a; fin_cases a <;> rfl

/-- An array of 2048 rows stored whole into a whole buffer is what the buffer then holds. -/
theorem read_store (M : Memref sig .tc .vmem S2048x128 .f32) (f : BufTy.Contents (Elt F) M.view.ty)
    (inb : ∀ a, (![0, 0] : Fin 2 → ℕ) a + S2048x128.size a ≤ S2048x128.size a) (w : Vec F S2048x128 .f32) :
    M.view.read (Elt F) (M.view.writes (Elt F) f [(⟨Rect.unit (s := S2048x128) ![0, 0] S2048x128.size inb, w⟩ : View.Piece (Elt F) S2048x128 .f32)]) = w := by
  rw [View.read_writes_eq_canon _ _ _ (fun y => ⟨_, List.mem_singleton_self _, by
    rw [Rect.mem_set_unit]; intro a; have := (y a).isLt; fin_cases a <;> simp_all⟩)]
  exact View.canon_unit_zero (S := S2048x128) zero2 inb w

/-- The block a grid point leaves, from its atoms' rows, the weights, the batch indices, the two carried arrays and its two chunk bounds. -/
def blockOut (v4 v6 : Elt F .i32) (hw : k0_chk1 v4 v6) (x0 : Vec F S2048x128 .f32) (x1 : Vec F S128x128 .f32) (x5 : Vec F S1x1x2048 .i32)
    (x6 : Vec F S1x2048 .i32) (K V : Vec F S2048x128 .f32) : Vec F S2048x128 .f32 :=
  k0_pay13 x0 (pairAt v4 v6 hw x0 x1 x5 x6 K V (k0_t1_loop v4 v6).trips).1 (pairAt v4 v6 hw x0 x1 x5 x6 K V (k0_t1_loop v4 v6).trips).2

/-- At a later grid point of a device, the output block is `blockOut` of the carried arrays. -/
theorem out_B_eq (c : Dev nD) (i : grid0.Coords) (arg3 : Memref sig .tc .vmem S2048x128 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x2048 .i32) (harg8 : arg8.IsWhole) (arg9 : Memref sig .tc .vmem S1x2048 .i32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (hc0 : ¬cond0_0 i)
    (x0 : Vec F S2048x128 .f32) (x1 : Vec F S128x128 .f32) (x2 : Vec F S2048x128 .f32) (x3 : Vec F S128x128 .f32) (x4 : Vec F S128x128 .f32) (x5 : Vec F S1x1x2048 .i32) (x6 : Vec F S1x2048 .i32) (xt0 : TbBuf0 (F := F) c tbM0_0) (xt1 : TbBuf0 (F := F) c tbM0_1) (xs0 : Vec F S2048x128 .f32) (xs1 : Vec F S2048x128 .f32) (k0_hw1 : k0_chk1 (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))))
    (h2 : (k0_t2_loop (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos)))).trips = 0) :
    out0_B_7 c i arg3 harg3 arg4 harg4 arg5 harg5 arg6 harg6 arg7 harg7 arg8 harg8 arg9 harg9 arg10 harg10 arg11 harg11 arg12 harg12 hc0 x0 x1 x2 x3 x4 x5 x6 xt0 xt1 xs0 xs1 k0_hw1
      = blockOut (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) k0_hw1 x0 x1 x5 x6 xs0 xs1 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xt0 xt1 xs0 xs1 k0_hw1)]
  unfold kernelRun0_B
  dsimp only
  refine (View.canon_unit_zero (S := S2048x128) zero2 _ _).trans ?_
  sl_unfold_words
  simp only [View.readAt_eq_ld, Memref.IsWhole.read_unread, View.ld_unit_zero (S := S2048x128) zero2, View.ld_unit_zero (S := S128x128) zero2, View.ld_unit_zero (S := S1x1x2048) zero3]
  exact congrArg (fun P : FVec F S2048x1 .f32 × FVec F S2048x128 .f32 => k0_pay13 x0 P.1 P.2)
    (final_eq Variants.none c none i tbM0_0 htbM0_0 tbM0_1 htbM0_1 arg3 harg3 arg4 harg4 arg5 harg5 arg6 harg6 arg7 harg7 arg8 harg8 arg9 harg9 arg10 harg10 arg11 harg11 arg12 harg12 (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) k0_hw1 x0 x1 x5 (harg9.unread x6) (harg11.unread xs0) (harg12.unread xs1) _ _ _ (harg9.read_unread _) (harg11.read_unread _) (harg12.read_unread _) h2)

/-- At the first grid point of a device, the output block is `blockOut` of the two products just stored. -/
theorem out_A_eq (c : Dev nD) (i : grid0.Coords) (arg3 : Memref sig .tc .vmem S2048x128 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x2048 .i32) (harg8 : arg8.IsWhole) (arg9 : Memref sig .tc .vmem S1x2048 .i32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (hc0 : cond0_0 i)
    (x0 : Vec F S2048x128 .f32) (x1 : Vec F S128x128 .f32) (x2 : Vec F S2048x128 .f32) (x3 : Vec F S128x128 .f32) (x4 : Vec F S128x128 .f32) (x5 : Vec F S1x1x2048 .i32) (x6 : Vec F S1x2048 .i32) (xt0 : TbBuf0 (F := F) c tbM0_0) (xt1 : TbBuf0 (F := F) c tbM0_1) (k0_hw1 : k0_chk1 (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))))
    (h2 : (k0_t2_loop (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos)))).trips = 0) :
    out0_A_7 c i arg3 harg3 arg4 harg4 arg5 harg5 arg6 harg6 arg7 harg7 arg8 harg8 arg9 harg9 arg10 harg10 arg11 harg11 arg12 harg12 hc0 x0 x1 x2 x3 x4 x5 x6 xt0 xt1 k0_hw1
      = blockOut (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) k0_hw1 x0 x1 x5 x6 (k0_pay1 x2 x3) (k0_pay2 x2 x4) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6 xt0 xt1 k0_hw1)]
  unfold kernelRun0_A
  dsimp only
  refine (View.canon_unit_zero (S := S2048x128) zero2 _ _).trans ?_
  sl_unfold_words
  simp only [View.readAt_eq_ld, Memref.IsWhole.read_unread, View.ld_unit_zero (S := S2048x128) zero2, View.ld_unit_zero (S := S128x128) zero2, View.ld_unit_zero (S := S1x1x2048) zero3]
  exact congrArg (fun P : FVec F S2048x1 .f32 × FVec F S2048x128 .f32 => k0_pay13 x0 P.1 P.2)
    (final_eq Variants.none c none i tbM0_0 htbM0_0 tbM0_1 htbM0_1 arg3 harg3 arg4 harg4 arg5 harg5 arg6 harg6 arg7 harg7 arg8 harg8 arg9 harg9 arg10 harg10 arg11 harg11 arg12 harg12 (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos))) k0_hw1 x0 x1 x5 (harg9.unread x6) _ _ _ _ _ (harg9.read_unread _) (read_store arg11 _ _ _) (read_store arg12 _ _ _) h2)

/-- The first grid point of a device leaves the keys in the first carried array. -/
theorem sout0_A_0_eq (c : Dev nD) (i : grid0.Coords) (arg3 : Memref sig .tc .vmem S2048x128 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x2048 .i32) (harg8 : arg8.IsWhole) (arg9 : Memref sig .tc .vmem S1x2048 .i32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (hc0 : cond0_0 i)
    (x0 : Vec F S2048x128 .f32) (x1 : Vec F S128x128 .f32) (x2 : Vec F S2048x128 .f32) (x3 : Vec F S128x128 .f32) (x4 : Vec F S128x128 .f32) (x5 : Vec F S1x1x2048 .i32) (x6 : Vec F S1x2048 .i32) (xt0 : TbBuf0 (F := F) c tbM0_0) (xt1 : TbBuf0 (F := F) c tbM0_1) (k0_hw1 : k0_chk1 (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos)))) :
    sout0_A_0 c i arg3 harg3 arg4 harg4 arg5 harg5 arg6 harg6 arg7 harg7 arg8 harg8 arg9 harg9 arg10 harg10 arg11 harg11 arg12 harg12 hc0 x0 x1 x2 x3 x4 x5 x6 xt0 xt1 k0_hw1 = k0_pay1 x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6 xt0 xt1 k0_hw1)]
  unfold kernelRun0_A
  dsimp only
  sl_unfold_words
  simp only [View.readAt_eq_ld, Memref.IsWhole.read_unread, View.ld_unit_zero (S := S2048x128) zero2, View.ld_unit_zero (S := S128x128) zero2, View.ld_unit_zero (S := S1x1x2048) zero3]
  exact View.canon_unit_zero (S := S2048x128) zero2 _ _

/-- The first grid point of a device leaves the values in the second carried array. -/
theorem sout0_A_1_eq (c : Dev nD) (i : grid0.Coords) (arg3 : Memref sig .tc .vmem S2048x128 .f32) (harg3 : arg3.IsWhole) (arg4 : Memref sig .tc .vmem S128x128 .f32) (harg4 : arg4.IsWhole) (arg5 : Memref sig .tc .vmem S2048x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x1x2048 .i32) (harg8 : arg8.IsWhole) (arg9 : Memref sig .tc .vmem S1x2048 .i32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (hc0 : cond0_0 i)
    (x0 : Vec F S2048x128 .f32) (x1 : Vec F S128x128 .f32) (x2 : Vec F S2048x128 .f32) (x3 : Vec F S128x128 .f32) (x4 : Vec F S128x128 .f32) (x5 : Vec F S1x1x2048 .i32) (x6 : Vec F S1x2048 .i32) (xt0 : TbBuf0 (F := F) c tbM0_0) (xt1 : TbBuf0 (F := F) c tbM0_1) (k0_hw1 : k0_chk1 (tbM0_0.view.readAt (Elt F) (Rect.unit (s := S8) (k0_off1 i) S1.size (k0_off1_inb i)).toLoadRect xt0 (Shape.Idx.first (numel1_S1.symm ▸ Nat.one_pos))) (tbM0_1.view.readAt (Elt F) (Rect.unit (s := S8) (k0_off1 i) S1.size (k0_off1_inb i)).toLoadRect xt1 (Shape.Idx.first (numel1_S1.symm ▸ Nat.one_pos)))) :
    sout0_A_1 c i arg3 harg3 arg4 harg4 arg5 harg5 arg6 harg6 arg7 harg7 arg8 harg8 arg9 harg9 arg10 harg10 arg11 harg11 arg12 harg12 hc0 x0 x1 x2 x3 x4 x5 x6 xt0 xt1 k0_hw1 = k0_pay2 x2 x4 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 x0 x1 x2 x3 x4 x5 x6 xt0 xt1 k0_hw1)]
  unfold kernelRun0_A
  dsimp only
  sl_unfold_words
  simp only [View.readAt_eq_ld, Memref.IsWhole.read_unread, View.ld_unit_zero (S := S2048x128) zero2, View.ld_unit_zero (S := S128x128) zero2, View.ld_unit_zero (S := S1x1x2048) zero3]
  exact View.canon_unit_zero (S := S2048x128) zero2 _ _

end Cert.KernelIdeal.Block
-- ==== Proof.Array.lean ====
/- What the kernel's result array holds after the run: block t of 2048 rows is `Block.blockOut` of that block's atoms, the
   keys and values of all residues, and the block's two chunk bounds. -/
module

public import proofs.«01_k».proof.Defs
public import proofs.«01_k».proof.Proof.Tables
public import proofs.«01_k».proof.Proof.Block
public import proofs.«01_k».proof.Proof.Gen.KernelIdeal.Points
public import Idealize.ShloMosaic.Lib.Pipeline.ValueKit.Geometry

@[expose] public section

noncomputable section

namespace Cert.KernelIdeal.Array

open Idealize.ShloMosaic Idealize.ShloMosaic.ValueIdx Idealize.ShloMosaic.TcCoe Idealize.SL.Sem Cert.KernelIdeal Cert.KernelIdeal.Gen Cert.KernelIdeal.Tables
open Cert.KernelIdeal.Block (blockOut)

variable {F : FTy → Type} [FloatOps F] [Named F]

/-! ## Where the launch's windows point -/

/-- The grid's one coordinate is the point's number. -/
theorem coord (t : Fin grid0.N) : (grid0.coords t 0).val = t.val :=
  (by decide +kernel : ∀ t : Fin grid0.N, (grid0.coords t 0).val = t.val) t

theorem ix_0 : ∀ t : Fin grid0.N, cc0_transform_0 (grid0.coords t) 0 = t.val ∧ cc0_transform_0 (grid0.coords t) 1 = 0 := by decide +kernel
theorem ix_1 : ∀ t : Fin grid0.N, cc0_transform_1 (grid0.coords t) 0 = 0 ∧ cc0_transform_1 (grid0.coords t) 1 = 0 := by decide +kernel
theorem ix_2 : ∀ t : Fin grid0.N, cc0_transform_2 (grid0.coords t) 0 = 0 ∧ cc0_transform_2 (grid0.coords t) 1 = 0 := by decide +kernel
theorem ix_3 : ∀ t : Fin grid0.N, cc0_transform_3 (grid0.coords t) 0 = 0 ∧ cc0_transform_3 (grid0.coords t) 1 = 0 := by decide +kernel
theorem ix_4 : ∀ t : Fin grid0.N, cc0_transform_4 (grid0.coords t) 0 = 0 ∧ cc0_transform_4 (grid0.coords t) 1 = 0 := by decide +kernel
theorem ix_5 : ∀ t : Fin grid0.N, cc0_transform_5 (grid0.coords t) 0 = t.val ∧ cc0_transform_5 (grid0.coords t) 1 = 0 ∧ cc0_transform_5 (grid0.coords t) 2 = 0 := by decide +kernel
theorem ix_6 : ∀ t : Fin grid0.N, cc0_transform_6 (grid0.coords t) 0 = 0 ∧ cc0_transform_6 (grid0.coords t) 1 = 0 := by decide +kernel
theorem ix_7 : ∀ t : Fin grid0.N, cc0_transform_7 (grid0.coords t) 0 = t.val ∧ cc0_transform_7 (grid0.coords t) 1 = 0 := by decide +kernel

/-- Rows [2048 t, 2048 t + 2048) of the atoms. -/
def atomRows (X : Vec F S16384x128 .f32) (t : Fin 8) : Vec F S2048x128 .f32 :=
  fun y => X (ix2 ⟨2048 * t.val + (y 0).val, by have : (y 0).val < 2048 := (y 0).isLt; omega⟩ ⟨(y 1).val, (y 1).isLt⟩)

/-- Block `t` of the atoms' batch indices, as the launch reads it. -/
def atomIds (X : Vec F S8x1x2048 .i32) (t : Fin 8) : Vec F S1x1x2048 .i32 :=
  fun y => X (ix3 t 0 ⟨(y 2).val, (y 2).isLt⟩)

variable (m : (ℓ : Loc nD τ sig) → Buf (Elt F) ℓ) (hO : Ok m) (c : Dev nD)

theorem blk_0 (t : Fin grid0.N) : iblk m hO c 0 t = atomRows (m ((c : Thread nD τ).loc main_arg0)) t := by
  refine funext fun (y : S2048x128.Idx) => ?_
  show V m c main_arg0 _ = m ((c : Thread nD τ).loc main_arg0) _
  rw [V_main_arg0]
  congr 1
  funext a
  apply Fin.ext
  match a with
  | ⟨0, _⟩ => show cc0_transform_0 (grid0.coords t) 0 * 2048 + 1 * (y 0).val = 2048 * t.val + (y 0).val; rw [(ix_0 t).1]; omega
  | ⟨1, _⟩ => show cc0_transform_0 (grid0.coords t) 1 * 128 + 1 * (y 1).val = (y 1).val; rw [(ix_0 t).2]; omega

theorem blk_1 (t : Fin grid0.N) : iblk m hO c 1 t = m ((c : Thread nD τ).loc main_arg4) := by
  refine funext fun (y : S128x128.Idx) => ?_
  show V m c main_arg4 _ = m ((c : Thread nD τ).loc main_arg4) y
  rw [V_main_arg4]
  congr 1
  funext a
  apply Fin.ext
  match a with
  | ⟨0, _⟩ => show cc0_transform_1 (grid0.coords t) 0 * 128 + 1 * (y 0).val = (y 0).val; rw [(ix_1 t).1]; omega
  | ⟨1, _⟩ => show cc0_transform_1 (grid0.coords t) 1 * 128 + 1 * (y 1).val = (y 1).val; rw [(ix_1 t).2]; omega

theorem blk_2 (t : Fin grid0.N) : iblk m hO c 2 t = m ((c : Thread nD τ).loc main_arg1) := by
  refine funext fun (y : S2048x128.Idx) => ?_
  show V m c main_arg1 _ = m ((c : Thread nD τ).loc main_arg1) y
  rw [V_main_arg1]
  congr 1
  funext a
  apply Fin.ext
  match a with
  | ⟨0, _⟩ => show cc0_transform_2 (grid0.coords t) 0 * 2048 + 1 * (y 0).val = (y 0).val; rw [(ix_2 t).1]; omega
  | ⟨1, _⟩ => show cc0_transform_2 (grid0.coords t) 1 * 128 + 1 * (y 1).val = (y 1).val; rw [(ix_2 t).2]; omega

theorem blk_3 (t : Fin grid0.N) : iblk m hO c 3 t = m ((c : Thread nD τ).loc main_arg5) := by
  refine funext fun (y : S128x128.Idx) => ?_
  show V m c main_arg5 _ = m ((c : Thread nD τ).loc main_arg5) y
  rw [V_main_arg5]
  congr 1
  funext a
  apply Fin.ext
  match a with
  | ⟨0, _⟩ => show cc0_transform_3 (grid0.coords t) 0 * 128 + 1 * (y 0).val = (y 0).val; rw [(ix_3 t).1]; omega
  | ⟨1, _⟩ => show cc0_transform_3 (grid0.coords t) 1 * 128 + 1 * (y 1).val = (y 1).val; rw [(ix_3 t).2]; omega

theorem blk_4 (t : Fin grid0.N) : iblk m hO c 4 t = m ((c : Thread nD τ).loc main_arg6) := by
  refine funext fun (y : S128x128.Idx) => ?_
  show V m c main_arg6 _ = m ((c : Thread nD τ).loc main_arg6) y
  rw [V_main_arg6]
  congr 1
  funext a
  apply Fin.ext
  match a with
  | ⟨0, _⟩ => show cc0_transform_4 (grid0.coords t) 0 * 128 + 1 * (y 0).val = (y 0).val; rw [(ix_4 t).1]; omega
  | ⟨1, _⟩ => show cc0_transform_4 (grid0.coords t) 1 * 128 + 1 * (y 1).val = (y 1).val; rw [(ix_4 t).2]; omega

theorem blk_5 (t : Fin grid0.N) : iblk m hO c 5 t = atomIds (V m c main_v43) t := by
  refine funext fun (y : S1x1x2048.Idx) => ?_
  show V m c main_v43 _ = V m c main_v43 _
  congr 1
  funext a
  apply Fin.ext
  match a with
  | ⟨0, _⟩ => show cc0_transform_5 (grid0.coords t) 0 * 1 + 1 * (y 0).val = t.val; rw [(ix_5 t).1]; have : (y 0).val < 1 := (y 0).isLt; omega
  | ⟨1, _⟩ => show cc0_transform_5 (grid0.coords t) 1 * 1 + 1 * (y 1).val = 0; rw [(ix_5 t).2.1]; have : (y 1).val < 1 := (y 1).isLt; omega
  | ⟨2, _⟩ => show cc0_transform_5 (grid0.coords t) 2 * 2048 + 1 * (y 2).val = (y 2).val; rw [(ix_5 t).2.2]; omega

theorem blk_6 (t : Fin grid0.N) : iblk m hO c 6 t = V m c main_v44 := by
  refine funext fun (y : S1x2048.Idx) => ?_
  show V m c main_v44 _ = V m c main_v44 y
  congr 1
  funext a
  apply Fin.ext
  match a with
  | ⟨0, _⟩ => show cc0_transform_6 (grid0.coords t) 0 * 1 + 1 * (y 0).val = (y 0).val; rw [(ix_6 t).1]; omega
  | ⟨1, _⟩ => show cc0_transform_6 (grid0.coords t) 1 * 2048 + 1 * (y 1).val = (y 1).val; rw [(ix_6 t).2]; omega

/-! ## The loops' trips -/

/-- The second loop makes no trip, and the first one trip per chunk between the bounds. -/
theorem trips_fin : ∀ a b : Fin 9, (k0_t2_loop (BitVec.ofNat 32 a) (BitVec.ofNat 32 b)).trips = 0
    ∧ (k0_t1_loop (BitVec.ofNat 32 a) (BitVec.ofNat 32 b)).trips = b.val - a.val := by decide +kernel

theorem trips_of_le (v4 v6 : BitVec 32) (h4 : v4.toNat ≤ 8) (h6 : v6.toNat ≤ 8) :
    (k0_t2_loop v4 v6).trips = 0 ∧ (k0_t1_loop v4 v6).trips = v6.toNat - v4.toNat := by
  have h := trips_fin ⟨v4.toNat, by omega⟩ ⟨v6.toNat, by omega⟩
  simpa only [BitVec.ofNat_toNat, BitVec.setWidth_eq] using h

/-- `blockOut` depends on its words alone, not on why they are in range. -/
theorem blockOut_congr {v4 v4' v6 v6' : BitVec 32} (hw : k0_chk1 v4 v6) (hw' : k0_chk1 v4' v6') (e4 : v4 = v4') (e6 : v6 = v6')
    (x0 : Vec F S2048x128 .f32) (x1 : Vec F S128x128 .f32) (x5 : Vec F S1x1x2048 .i32) (x6 : Vec F S1x2048 .i32) (K W : Vec F S2048x128 .f32) :
    blockOut v4 v6 hw x0 x1 x5 x6 K W = blockOut v4' v6' hw' x0 x1 x5 x6 K W := by
  subst e4 e6; rfl

/-! ## The carried arrays and the output blocks -/

/-- The keys of all residues, as the kernel computes them. -/
def keys : Vec F S2048x128 .f32 := k0_pay1 (m ((c : Thread nD τ).loc main_arg1)) (m ((c : Thread nD τ).loc main_arg5))

/-- The values of all residues, as the kernel computes them. -/
def vals : Vec F S2048x128 .f32 := k0_pay2 (m ((c : Thread nD τ).loc main_arg1)) (m ((c : Thread nD τ).loc main_arg6))

/-- A block's first chunk. -/
def lo (t : Fin 8) : BitVec 32 := Words.loChunk (m ((c : Thread nD τ).loc main_arg2)) (m ((c : Thread nD τ).loc main_arg3)) (ix1 t)

/-- One more than a block's last chunk. -/
def hi (t : Fin 8) : BitVec 32 := Words.hiChunk (m ((c : Thread nD τ).loc main_arg2)) (m ((c : Thread nD τ).loc main_arg3)) (ix1 t)

theorem lo_le (t : Fin 8) : (lo m c t).toNat ≤ 8 := Words.loChunk_le _ _ _
theorem hi_le (t : Fin 8) : (hi m c t).toNat ≤ 8 := Words.hiChunk_le _ _ _

theorem chk (t : Fin 8) : k0_chk1 (lo m c t) (hi m c t) := chk_of_le _ _ (lo_le m c t) (hi_le m c t)

/-- The output block at point `t`. -/
def outBlock (t : Fin 8) : Vec F S2048x128 .f32 :=
  blockOut (lo m c t) (hi m c t) (chk m c t) (atomRows (m ((c : Thread nD τ).loc main_arg0)) t) (m ((c : Thread nD τ).loc main_arg4))
    (atomIds (shapeCast S8x1x2048 (m ((c : Thread nD τ).loc main_arg2)) shapeCasts_S16384_S8x1x2048) t)
    (shapeCast S1x2048 (m ((c : Thread nD τ).loc main_arg3)) shapeCasts_S2048_S1x2048) (keys m c) (vals m c)

theorem readLo (t : Fin grid0.N) :
    tbM0_0.view.readAt (Elt F) (Rect.unit (s := S8) (k0_off1 (grid0.coords t)) S1.size (k0_off1_inb (grid0.coords t))).toLoadRect (tbl m 0)
      (Shape.Idx.first (numel1_S1.symm ▸ Nat.one_pos)) = lo m c t := by
  obtain rfl : c = 0 := Subsingleton.elim _ _
  refine ((word_lo (F := F) 0 (grid0.coords t) (tbl m 0)).trans (congrFun (tbl_lo m) _)).trans ?_
  unfold lo
  congr 2
  exact Fin.ext (coord t)

theorem readHi (t : Fin grid0.N) :
    tbM0_1.view.readAt (Elt F) (Rect.unit (s := S8) (k0_off1 (grid0.coords t)) S1.size (k0_off1_inb (grid0.coords t))).toLoadRect (tbl m 1)
      (Shape.Idx.first (numel1_S1.symm ▸ Nat.one_pos)) = hi m c t := by
  obtain rfl : c = 0 := Subsingleton.elim _ _
  refine ((word_hi (F := F) 0 (grid0.coords t) (tbl m 1)).trans (congrFun (tbl_hi m) _)).trans ?_
  unfold hi
  congr 2
  exact Fin.ext (coord t)

/-- The block as the body's own terms give it, at the words it read, is `outBlock`. -/
theorem blockOut_at (t : Fin grid0.N) {v4 v6 : BitVec 32} (hw : k0_chk1 v4 v6) (e4 : v4 = lo m c t) (e6 : v6 = hi m c t) :
    blockOut v4 v6 hw (iblk m hO c 0 t) (iblk m hO c 1 t) (iblk m hO c 5 t) (iblk m hO c 6 t) (keys m c) (vals m c) = outBlock m c t := by
  rw [blk_0, blk_1, blk_5, blk_6, V_ab, V_rb]
  exact blockOut_congr hw (chk m c t) e4 e6 _ _ _ _ _ _

theorem trips2 (t : Fin grid0.N) {v4 v6 : BitVec 32} (e4 : v4 = lo m c t) (e6 : v6 = hi m c t) : (k0_t2_loop v4 v6).trips = 0 := by
  subst e4 e6
  exact (trips_of_le _ _ (lo_le m c t) (hi_le m c t)).1

set_option maxHeartbeats 1000000 in
/-- At a device's first point the block is `outBlock`. -/
theorem out_first (hH : Hyps m hO) (t : Fin grid0.N) (h0 : t.val % 8 = 0) : (outsAt0 m hO hH c t.val t.isLt).1 = outBlock m c t := by
  refine (congrArg (fun p => p.1) (outsAt0_A m hO hH c t h0)).trans ?_
  dsimp only
  refine (Block.out_A_eq (h2 := trips2 m c t (readLo m c t) (readHi m c t)) ..).trans ?_
  refine Eq.trans ?_ (blockOut_at m hO c t (hH.c0 c t) (readLo m c t) (readHi m c t))
  exact congrArg₂ (blockOut _ _ _ _ _ _ _) (congrArg₂ k0_pay1 (blk_2 m hO c t) (blk_3 m hO c t))
    (congrArg₂ k0_pay2 (blk_2 m hO c t) (blk_4 m hO c t))

set_option maxHeartbeats 1000000 in
/-- At a device's first point the first carried array becomes the keys. -/
theorem keys_first (hH : Hyps m hO) (t : Fin grid0.N) (h0 : t.val % 8 = 0) : (outsAt0 m hO hH c t.val t.isLt).2.1 = keys m c := by
  refine (congrArg (fun p => p.2.1) (outsAt0_A m hO hH c t h0)).trans ?_
  dsimp only
  exact (Block.sout0_A_0_eq ..).trans (congrArg₂ k0_pay1 (blk_2 m hO c t) (blk_3 m hO c t))

set_option maxHeartbeats 1000000 in
/-- At a device's first point the second carried array becomes the values. -/
theorem vals_first (hH : Hyps m hO) (t : Fin grid0.N) (h0 : t.val % 8 = 0) : (outsAt0 m hO hH c t.val t.isLt).2.2 = vals m c := by
  refine (congrArg (fun p => p.2.2) (outsAt0_A m hO hH c t h0)).trans ?_
  dsimp only
  exact (Block.sout0_A_1_eq ..).trans (congrArg₂ k0_pay2 (blk_2 m hO c t) (blk_4 m hO c t))

set_option maxHeartbeats 1000000 in
/-- At a later point the block is `outBlock` when the carried arrays are the keys and the values, -/
theorem out_later (hH : Hyps m hO) (t : Fin grid0.N) (h0 : ¬ t.val % 8 = 0)
    (e1 : (outsAt0 m hO hH c (t.val - 1) (Nat.lt_of_le_of_lt (Nat.sub_le _ _) t.isLt)).2.1 = keys m c)
    (e2 : (outsAt0 m hO hH c (t.val - 1) (Nat.lt_of_le_of_lt (Nat.sub_le _ _) t.isLt)).2.2 = vals m c) :
    (outsAt0 m hO hH c t.val t.isLt).1 = outBlock m c t := by
  refine (congrArg (fun p => p.1) (outsAt0_B m hO hH c t h0)).trans ?_
  dsimp only
  refine (Block.out_B_eq (h2 := trips2 m c t (readLo m c t) (readHi m c t)) ..).trans ?_
  refine Eq.trans ?_ (blockOut_at m hO c t (hH.c0 c t) (readLo m c t) (readHi m c t))
  exact congrArg₂ (blockOut _ _ _ _ _ _ _) e1 e2

/-- and they stay what they were. -/
theorem carried_later (hH : Hyps m hO) (t : Fin grid0.N) (h0 : ¬ t.val % 8 = 0) :
    (outsAt0 m hO hH c t.val t.isLt).2 = (outsAt0 m hO hH c (t.val - 1) (Nat.lt_of_le_of_lt (Nat.sub_le _ _) t.isLt)).2 :=
  congrArg (fun p => p.2) (outsAt0_B m hO hH c t h0)

/-- After every point the carried arrays are the keys and the values. -/
theorem carried (hH : Hyps m hO) : ∀ (n : ℕ) (hn : n < grid0.N),
    (outsAt0 m hO hH c n hn).2.1 = keys m c ∧ (outsAt0 m hO hH c n hn).2.2 = vals m c := by
  intro n
  induction n with
  | zero => exact fun hn => ⟨keys_first m hO c hH ⟨0, hn⟩ (Nat.zero_mod _), vals_first m hO c hH ⟨0, hn⟩ (Nat.zero_mod _)⟩
  | succ n ih =>
    intro hn
    have hne : ¬ (n + 1) % 8 = 0 := by have : n + 1 < 8 := hn; omega
    have e := carried_later m hO c hH ⟨n + 1, hn⟩ hne
    have h := ih (Nat.lt_of_succ_lt hn)
    exact ⟨(congrArg (fun p => p.1) e).trans h.1, (congrArg (fun p => p.2) e).trans h.2⟩

/-- After every point the block is `outBlock`. -/
theorem outs (hH : Hyps m hO) (t : Fin grid0.N) : (outsAt0 m hO hH c t.val t.isLt).1 = outBlock m c t := by
  by_cases h0 : t.val % 8 = 0
  · exact out_first m hO c hH t h0
  · have h := carried m hO c hH (t.val - 1) (Nat.lt_of_le_of_lt (Nat.sub_le _ _) t.isLt)
    exact out_later m hO c hH t h0 h.1 h.2

/-- The kernel's result: row `r` is row `r mod 2048` of block `r / 2048`. -/
def result : Vec F S16384x128 .f32 := fun i =>
  outBlock m c ⟨(i 0).val / 2048, by have : (i 0).val < 16384 := (i 0).isLt; omega⟩
    (ix2 ⟨(i 0).val % 2048, Nat.mod_lt _ (by omega)⟩ ⟨(i 1).val, (i 1).isLt⟩)

end Cert.KernelIdeal.Array
-- ==== Proof.KernelRun.lean ====
/- The result array after the run is `Array.result`, and the kernel's run ends with it. -/
module

public import proofs.«01_k».proof.Defs
public import proofs.«01_k».proof.Proof.Array
public import proofs.«01_k».proof.Proof.Gen.KernelIdeal.Points
public import Idealize.ShloMosaic.Lib.Pipeline.ValueKit.Geometry

@[expose] public section

noncomputable section

namespace Cert.KernelIdeal.Array

open Idealize.ShloMosaic Idealize.ShloMosaic.ValueIdx Idealize.ShloMosaic.TcCoe Idealize.SL.Sem Cert.KernelIdeal Cert.KernelIdeal.Gen Cert.KernelIdeal.Tables

variable {F : FTy → Type} [FloatOps F] [Named F]

variable (m : (ℓ : Loc nD τ sig) → Buf (Elt F) ℓ) (ρ : Dev nD → PrngReg) (hO : Ok m) (c : Dev nD)

/-- The blocks written back fill the result array with `result`. -/
theorem final (hH : Hyps m hO) : (dats m hO hH 0 c).arrAt 7 (cfgM m hO).N = result m c := by
  refine (dats m hO hH 0 c).arrAt_eq_of_emb 7 _ (fun t _ (y : S2048x128.Idx) => ?_) (fun (i : S16384x128.Idx) => ?_)
  · obtain ⟨z, hz⟩ : ∃ z : S16384x128.Idx, z = (((cfgM m hO).win 7).blk t).view.emb y := ⟨_, rfl⟩
    have e : (z 0).val = 2048 * t.val + (y 0).val := by
      rw [hz]
      show cc0_transform_7 (grid0.coords t) 0 * 2048 + 1 * (y 0).val = 2048 * t.val + (y 0).val
      rw [(ix_7 t).1]; omega
    have e1 : (z 1).val = (y 1).val := by
      rw [hz]
      show cc0_transform_7 (grid0.coords t) 1 * 128 + 1 * (y 1).val = (y 1).val
      rw [(ix_7 t).2]; omega
    have hy : (y 0).val < 2048 := (y 0).isLt
    refine Eq.trans ?_ (congrArg (result m c) hz)
    refine (congrFun (after0_7 m hO hH c t) y).trans ?_
    refine (congrFun (outs m hO c hH t) y).trans ?_
    unfold result
    refine congrArg₂ (outBlock m c) (Fin.ext ?_) (funext fun a => Fin.ext ?_)
    · show t.val = (z 0).val / 2048
      rw [e]; omega
    · match a with
      | ⟨0, _⟩ => show (y 0).val = (z 0).val % 2048; rw [e]; omega
      | ⟨1, _⟩ => show (y 1).val = (z 1).val; rw [e1]
  · have hi : (i 0).val < 16384 := (i 0).isLt
    have hi1 : (i 1).val < 128 := (i 1).isLt
    obtain ⟨t, ht⟩ : ∃ t : Fin grid0.N, t.val = (i 0).val / 2048 := ⟨⟨(i 0).val / 2048, by show (i 0).val / 2048 < 8; omega⟩, rfl⟩
    refine ⟨t, flush0_7 (adm m hO) t, ?_⟩
    refine (((cfgM m hO).win 7).emb_mem_blk_iff t i rfl).mpr fun a => ?_
    match a with
    | ⟨0, _⟩ =>
      show cc0_transform_7 (grid0.coords t) 0 * 2048 ≤ (i 0).val ∧ (i 0).val < cc0_transform_7 (grid0.coords t) 0 * 2048 + 2048
      rw [(ix_7 t).1, ht]; omega
    | ⟨1, _⟩ =>
      show cc0_transform_7 (grid0.coords t) 1 * 128 ≤ (i 1).val ∧ (i 1).val < cc0_transform_7 (grid0.coords t) 1 * 128 + 128
      rw [(ix_7 t).2]; omega

/-- The kernel's run: the result array at `result`, the arguments unchanged. -/
theorem run (hO : Ok m) : θ_run defs (onTc (τ := τ) (main (F := F))) ⟨m, fun _ => 0, ρ⟩ (fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hH := hyps m hO
  refine (θ_run defs _ _).mono (fun r h c => ?_) (θ_run_and (run_main m ρ hO hH) (unchanged m ρ hO hH))
  exact ⟨((h.1.out_eq c 7).trans (final m hO c hH)), h.2 c⟩

end Cert.KernelIdeal.Array
-- ==== Proof.Payloads.lean ====
/- What each of the kernel body's vector expressions holds at an index, over the extended reals. -/
module

public import proofs.«01_k».proof.Proof.Trip
public import Idealize.ShloMosaic.Lib.Pointwise
public import Idealize.ShloMosaic.Lib.ValueIdx

@[expose] public section

noncomputable section

namespace Cert.KernelIdeal.Payloads

open Idealize.ShloMosaic hiding ix0 ix1 ix2 ix3 ix4 ix5
open Idealize.ShloMosaic.ValueIdx Cert.KernelIdeal Cert.KernelIdeal.Gen

/-- The scale the kernel names: what `inv_sqrt_h` stands for. -/
def kappa : EReal := Named.named (F := Ideal) (φ := .f32) κ "inv_sqrt_h" 0x3DB504F3#32

/-- The weight a row whose atoms carry the word `a` gives a residue carrying the word `b`, at score `s`: the score's exponential where
    the words are equal, zero elsewhere. -/
def weight (a b : BitVec 32) (s : EReal) : EReal := Scalar.select (IntOp.cmpi .eq a b) (Ideal.exp s) 0

/-- The stored keys: residue rows times the key matrix. -/
theorem pay1_apply (X : Vec Ideal S2048x128 .f32) (W : Vec Ideal S128x128 .f32) (j : Fin 2048) (h : Fin 128) :
    k0_pay1 X W (ix2 j h) = ∑ k : Fin 128, X (ix2 j k) * W (ix2 k h) := by
  pointwise [k0_pay1]
  simp only [ix2_eq_valueIdx]

/-- The stored values: residue rows times the value matrix. -/
theorem pay2_apply (X : Vec Ideal S2048x128 .f32) (W : Vec Ideal S128x128 .f32) (j : Fin 2048) (h : Fin 128) :
    k0_pay2 X W (ix2 j h) = ∑ k : Fin 128, X (ix2 j k) * W (ix2 k h) := by
  pointwise [k0_pay2]
  simp only [ix2_eq_valueIdx]

/-- The queries: atom rows times the query matrix, each entry scaled. -/
theorem pay3_apply (X : Vec Ideal S2048x128 .f32) (W : Vec Ideal S128x128 .f32) (j : Fin 2048) (h : Fin 128) :
    k0_pay3 X W (ix2 j h) = (∑ k : Fin 128, X (ix2 j k) * W (ix2 k h)) * kappa := by
  pointwise [k0_pay3, kappa]
  simp only [ix2_eq_valueIdx]

/-- The weights of one chunk of residues. -/
theorem pay7_apply (X : Vec Ideal S2048x128 .f32) (W : Vec Ideal S128x128 .f32) (A : Vec Ideal S1x1x2048 .i32)
    (K : Vec Ideal S256x128 .f32) (B : Vec Ideal S1x256 .i32) (p : Fin 2048) (u : Fin 256) :
    k0_pay7 X W A K B (ix2 p u)
      = weight (A (ix3 0 0 p)) (B (ix2 0 u)) (∑ h : Fin 128, k0_pay3 X W (ix2 p h) * K (ix2 u h)) := by
  generalize hq : k0_pay3 X W = Q
  pointwise [k0_pay7, k0_pay4, weight]
  simp only [ix2_eq_valueIdx, hq]; rfl

/-- The running sum of weights after one more chunk. -/
theorem pay8_apply (X : Vec Ideal S2048x128 .f32) (W : Vec Ideal S128x128 .f32) (A : Vec Ideal S1x1x2048 .i32)
    (l : Vec Ideal S2048x1 .f32) (K : Vec Ideal S256x128 .f32) (B : Vec Ideal S1x256 .i32) (p : Fin 2048) :
    k0_pay8 X W A l K B (ix2 p 0) = l (ix2 p 0) + ∑ u : Fin 256, k0_pay7 X W A K B (ix2 p u) := by
  generalize hq : k0_pay7 X W A K B = Q
  pointwise [k0_pay8]
  simp only [ix2_eq_valueIdx, hq]

/-- The running weighted sum of values after one more chunk. -/
theorem pay9_apply (X : Vec Ideal S2048x128 .f32) (W : Vec Ideal S128x128 .f32) (A : Vec Ideal S1x1x2048 .i32)
    (acc : Vec Ideal S2048x128 .f32) (K V : Vec Ideal S256x128 .f32) (B : Vec Ideal S1x256 .i32) (p : Fin 2048) (d : Fin 128) :
    k0_pay9 X W A acc K V B (ix2 p d) = acc (ix2 p d) + ∑ u : Fin 256, k0_pay7 X W A K B (ix2 p u) * V (ix2 u d) := by
  generalize hq : k0_pay7 X W A K B = Q
  pointwise [k0_pay9]
  simp only [ix2_eq_valueIdx, hq]

/-- The sums start at zero. -/
theorem pay5_apply (p : Fin 2048) : (k0_pay5 : FVec Ideal S2048x1 .f32) (ix2 p 0) = 0 := by
  pointwise [k0_pay5]

/-- The weighted sums start at zero. -/
theorem pay6_apply (p : Fin 2048) (d : Fin 128) : (k0_pay6 : FVec Ideal S2048x128 .f32) (ix2 p d) = 0 := by
  pointwise [k0_pay6]

/-- What is added to an atom's entry: the weighted sum over the sum of weights, zero where the weights sum to nothing. -/
def gated (l acc : EReal) : EReal :=
  Scalar.select (Ideal.cmp .ogt l 0) (Ideal.div acc (Scalar.select (Ideal.cmp .ogt l 0) l 1)) 0

/-- What the body leaves in its output block. -/
theorem pay13_apply (X : Vec Ideal S2048x128 .f32) (l : Vec Ideal S2048x1 .f32) (acc : Vec Ideal S2048x128 .f32)
    (p : Fin 2048) (d : Fin 128) :
    k0_pay13 X l acc (ix2 p d) = X (ix2 p d) + gated (l (ix2 p 0)) (acc (ix2 p d)) := by
  pointwise [k0_pay13, gated]
  simp only [ix2_eq_valueIdx]

end Cert.KernelIdeal.Payloads

end
-- ==== Proof.Chunks.lean ====
/- Sums over consecutive chunks of 256 residues, and the sum over all 2048 they add up to. -/
module

public import Mathlib.Data.EReal.Basic
public import Mathlib.Algebra.BigOperators.Intervals
public import Mathlib.Algebra.BigOperators.Fin

@[expose] public section

noncomputable section

namespace Cert.Chunks

open Finset

/-- A function of the 2048 residues, taken as zero past the last. -/
def ext (g : Fin 2048 → EReal) (j : ℕ) : EReal := if h : j < 2048 then g ⟨j, h⟩ else 0

theorem ext_of_lt (g : Fin 2048 → EReal) {j : ℕ} (h : j < 2048) : ext g j = g ⟨j, h⟩ := dif_pos h

/-- One more chunk's sum. -/
theorem sum_chunk (f : ℕ → EReal) (a n : ℕ) :
    ∑ j ∈ Ico (a * 256) ((a + n) * 256), f j + ∑ u : Fin 256, f ((a + n) * 256 + u.val)
      = ∑ j ∈ Ico (a * 256) ((a + (n + 1)) * 256), f j := by
  rw [← sum_Ico_consecutive f (Nat.mul_le_mul_right 256 (Nat.le_add_right a n)) (show (a + n) * 256 ≤ (a + (n + 1)) * 256 by omega)]
  congr 1
  rw [sum_Ico_eq_sum_range, show (a + (n + 1)) * 256 - (a + n) * 256 = 256 by omega, sum_range]

/-- A sum over a range of residues outside which the terms are zero is the sum over all of them. -/
theorem sum_all (g : Fin 2048 → EReal) (a b : ℕ) (h : ∀ j : Fin 2048, ¬ (a ≤ j.val ∧ j.val < b) → g j = 0) :
    ∑ j ∈ Ico a b, ext g j = ∑ j : Fin 2048, g j := by
  have e : ∑ j : Fin 2048, g j = ∑ j ∈ range 2048, ext g j := by
    rw [sum_range]
    exact sum_congr rfl fun j _ => (ext_of_lt g j.isLt).symm
  rw [e]
  refine (sum_subset (inter_subset_left (s₁ := Ico a b) (s₂ := range 2048)) fun j hj hn => ?_).symm.trans
    (sum_subset (inter_subset_right (s₁ := Ico a b) (s₂ := range 2048)) fun j hj hn => ?_)
  · exact dif_neg fun hlt => hn (mem_inter.2 ⟨hj, mem_range.2 hlt⟩)
  · rw [ext_of_lt g (mem_range.1 hj)]
    exact h _ fun hab => hn (mem_inter.2 ⟨mem_Ico.2 hab, hj⟩)

end Cert.Chunks

end
-- ==== Proof.LoopSums.lean ====
/- The pair the kernel body's loop carries, as sums over the residues of the chunks it has gone through, and the output block
   the body makes of it. -/
module

public import proofs.«01_k».proof.Proof.Payloads
public import proofs.«01_k».proof.Proof.Block
public import proofs.«01_k».proof.Proof.Chunks
public import Idealize.ShloMosaic.Lib.Pipeline.ValueKit.Tiles

@[expose] public section

noncomputable section

namespace Cert.KernelIdeal.LoopSums

open Idealize.ShloMosaic hiding ix0 ix1 ix2 ix3 ix4 ix5
open Idealize.ShloMosaic.ValueIdx Cert.KernelIdeal Cert.KernelIdeal.Gen Cert.KernelIdeal.Payloads Cert.KernelIdeal.Block

/-- Trip `k` reads from residue 256 (first chunk + k) on, and there are as many trips as chunks between the bounds. -/
theorem offs_fin : ∀ a b : Fin 9, ∀ k : Fin (k0_t1_loop (BitVec.ofNat 32 a) (BitVec.ofNat 32 b)).trips,
    k0_off2 (BitVec.ofNat 32 a) (BitVec.ofNat 32 b) k = ![(a.val + k.val) * 256, 0]
      ∧ k0_off3 (BitVec.ofNat 32 a) (BitVec.ofNat 32 b) k = ![0, (a.val + k.val) * 256] := by decide +kernel

theorem offs (v4 v6 : BitVec 32) (h4 : v4.toNat ≤ 8) (h6 : v6.toNat ≤ 8) (k : Fin (k0_t1_loop v4 v6).trips) :
    k0_off2 v4 v6 k = ![(v4.toNat + k.val) * 256, 0] ∧ k0_off3 v4 v6 k = ![0, (v4.toNat + k.val) * 256] := by
  obtain ⟨a, rfl⟩ : ∃ a : Fin 9, v4 = BitVec.ofNat 32 a.val := ⟨⟨v4.toNat, by omega⟩, by simp⟩
  obtain ⟨b, rfl⟩ : ∃ b : Fin 9, v6 = BitVec.ofNat 32 b.val := ⟨⟨v6.toNat, by omega⟩, by simp⟩
  have e : (BitVec.ofNat 32 a.val).toNat = a.val := by rw [BitVec.toNat_ofNat]; exact Nat.mod_eq_of_lt (by omega)
  rw [e]
  exact offs_fin a b k

/-- The weight row `p` of a block of atoms gives residue `j`. -/
def wt (X : Vec Ideal S2048x128 .f32) (W : Vec Ideal S128x128 .f32) (A : Vec Ideal S1x1x2048 .i32) (B : Vec Ideal S1x2048 .i32)
    (K : Vec Ideal S2048x128 .f32) (p : Fin 2048) (j : Fin 2048) : EReal :=
  weight (A (ix3 0 0 p)) (B (ix2 0 j)) (∑ h : Fin 128, k0_pay3 X W (ix2 p h) * K (ix2 j h))

variable (v4 v6 : BitVec 32) (hw : k0_chk1 v4 v6) (h4 : v4.toNat ≤ 8) (h6 : v6.toNat ≤ 8)

include hw h4 h6

theorem row_lt (k : Fin (k0_t1_loop v4 v6).trips) (u : Fin 256) : (v4.toNat + k.val) * 256 + u.val < 2048 := by
  have h := k0_off2_inb v4 v6 hw k 0
  rw [(offs v4 v6 h4 h6 k).1] at h
  have h' : (v4.toNat + k.val) * 256 + 256 ≤ 2048 := h
  omega

/-- Row `u` of the rows trip `k` reads. -/
theorem rowsAt_apply (X : Vec Ideal S2048x128 .f32) (k : Fin (k0_t1_loop v4 v6).trips) (u : Fin 256) (d : Fin 128) :
    rowsAt X v4 v6 hw k (ix2 u d) = X (ix2 ⟨(v4.toNat + k.val) * 256 + u.val, row_lt v4 v6 hw h4 h6 k u⟩ d) := by
  unfold rowsAt
  refine congrArg X (funext fun a => Fin.ext ?_)
  have e := (offs v4 v6 h4 h6 k).1
  match a with
  | ⟨0, _⟩ => show k0_off2 v4 v6 k 0 + 1 * u.val = _; rw [e]; show (v4.toNat + k.val) * 256 + 1 * u.val = (v4.toNat + k.val) * 256 + u.val; omega
  | ⟨1, _⟩ => show k0_off2 v4 v6 k 1 + 1 * d.val = d.val; rw [e]; show 0 + 1 * d.val = d.val; omega

/-- Entry `u` of the batch indices trip `k` reads. -/
theorem idsAt_apply (B : Vec Ideal S1x2048 .i32) (k : Fin (k0_t1_loop v4 v6).trips) (u : Fin 256) :
    idsAt (F := Ideal) B v4 v6 hw k (ix2 0 u) = B (ix2 0 ⟨(v4.toNat + k.val) * 256 + u.val, row_lt v4 v6 hw h4 h6 k u⟩) := by
  unfold idsAt
  refine congrArg B (funext fun a => Fin.ext ?_)
  have e := (offs v4 v6 h4 h6 k).2
  match a with
  | ⟨0, _⟩ => show k0_off3 v4 v6 k 0 + 1 * 0 = 0; rw [e]; rfl
  | ⟨1, _⟩ => show k0_off3 v4 v6 k 1 + 1 * u.val = _; rw [e]; show (v4.toNat + k.val) * 256 + 1 * u.val = (v4.toNat + k.val) * 256 + u.val; omega

variable (X : Vec Ideal S2048x128 .f32) (W : Vec Ideal S128x128 .f32) (A : Vec Ideal S1x1x2048 .i32) (B : Vec Ideal S1x2048 .i32)
  (K V : Vec Ideal S2048x128 .f32) (p : Fin 2048)

/-- The weights of trip `k`'s chunk. -/
theorem chunk_weight (k : Fin (k0_t1_loop v4 v6).trips) (u : Fin 256) :
    k0_pay7 X W A (rowsAt K v4 v6 hw k) (idsAt (F := Ideal) B v4 v6 hw k) (ix2 p u)
      = wt X W A B K p ⟨(v4.toNat + k.val) * 256 + u.val, row_lt v4 v6 hw h4 h6 k u⟩ := by
  rw [pay7_apply, idsAt_apply v4 v6 hw h4 h6]
  unfold wt
  congr 1
  exact Finset.sum_congr rfl fun h _ => by rw [rowsAt_apply v4 v6 hw h4 h6]

/-- After `n` trips the first of the pair is the sum of the weights of the chunks gone through. -/
theorem sums_at (n : ℕ) (hn : n ≤ (k0_t1_loop v4 v6).trips) :
    (pairAt v4 v6 hw X W A B K V n).1 (ix2 p 0)
      = ∑ j ∈ Finset.Ico (v4.toNat * 256) ((v4.toNat + n) * 256), Chunks.ext (wt X W A B K p) j := by
  induction n with
  | zero => rw [Nat.add_zero, Finset.Ico_self, Finset.sum_empty]; exact pay5_apply p
  | succ n ih =>
    have h : n < (k0_t1_loop v4 v6).trips := hn
    unfold pairAt
    rw [dif_pos h]
    dsimp only
    rw [pay8_apply, ih (Nat.le_of_lt h), ← Chunks.sum_chunk]
    congr 1
    refine Finset.sum_congr rfl fun u _ => ?_
    rw [chunk_weight v4 v6 hw h4 h6]
    exact (Chunks.ext_of_lt _ _).symm

/-- After `n` trips the second of the pair is the sum of the weighted values of the chunks gone through. -/
theorem accs_at (d : Fin 128) (n : ℕ) (hn : n ≤ (k0_t1_loop v4 v6).trips) :
    (pairAt v4 v6 hw X W A B K V n).2 (ix2 p d)
      = ∑ j ∈ Finset.Ico (v4.toNat * 256) ((v4.toNat + n) * 256), Chunks.ext (fun j => wt X W A B K p j * V (ix2 j d)) j := by
  induction n with
  | zero => rw [Nat.add_zero, Finset.Ico_self, Finset.sum_empty]; exact pay6_apply p d
  | succ n ih =>
    have h : n < (k0_t1_loop v4 v6).trips := hn
    unfold pairAt
    rw [dif_pos h]
    dsimp only
    rw [pay9_apply, ih (Nat.le_of_lt h), ← Chunks.sum_chunk]
    congr 1
    refine Finset.sum_congr rfl fun u _ => ?_
    rw [chunk_weight v4 v6 hw h4 h6, rowsAt_apply v4 v6 hw h4 h6]
    exact (Chunks.ext_of_lt (fun j => wt X W A B K p j * V (ix2 j d)) _).symm

/-- The block's entry, when no residue outside the chunks gone through has a weight: the atom's entry, and the weighted mean of
    the values over all residues. -/
theorem blockOut_apply (d : Fin 128) (ht : (k0_t1_loop v4 v6).trips = v6.toNat - v4.toNat)
    (hz : ∀ j : Fin 2048, ¬ (v4.toNat * 256 ≤ j.val ∧ j.val < (v4.toNat + (v6.toNat - v4.toNat)) * 256) → wt X W A B K p j = 0) :
    blockOut v4 v6 hw X W A B K V (ix2 p d)
      = X (ix2 p d) + gated (∑ j : Fin 2048, wt X W A B K p j) (∑ j : Fin 2048, wt X W A B K p j * V (ix2 j d)) := by
  unfold blockOut
  rw [pay13_apply, sums_at v4 v6 hw h4 h6 X W A B K V p _ le_rfl, accs_at v4 v6 hw h4 h6 X W A B K V p d _ le_rfl, ht,
    Chunks.sum_all _ _ _ hz, Chunks.sum_all _ _ _ fun j hj => by rw [hz j hj, zero_mul]]

end Cert.KernelIdeal.LoopSums

end
-- ==== Proof.PreRead.lean ====
/- What the precondition says of the argument arrays: the float arrays it reads are finite everywhere, and the two lists of batch
   indices lie in [0, 16) and do not decrease. -/
module

public import proofs.«01_k».proof.Defs
public import Idealize.ShloMosaic.Lib.ReduceAll
public import Idealize.ShloMosaic.Lib.WordCmp
public import Idealize.ShloMosaic.Lib.Pointwise
public import Idealize.ShloMosaic.Lib.ValueIdx

@[expose] public section

noncomputable section

namespace Cert.PreRead

open Idealize.ShloMosaic hiding ix0 ix1 ix2 ix3 ix4 ix5
open Idealize.ShloMosaic.ValueIdx Cert.Pre_inputs_tame Cert.Pre_inputs_tame.Facts

variable [Facts]

instance : Subsingleton S_.Idx := ⟨fun a b => funext fun i => i.elim0⟩

/-- An array of extended reals without an infinite entry. -/
def Finite {s : Shape} (x : FVec Ideal s .f32) : Prop := ∀ i, x i ≠ ⊥ ∧ x i ≠ ⊤

/-- A word that is one bit of a decided statement is one where the statement holds. -/
theorem of_bit {p : Prop} [Decidable p] (h : BitVec.ofBool (decide p) = 1#1) : p := by
  by_contra hp; rw [decide_eq_false hp] at h; exact absurd h (by decide)

/-- The pattern of the lower bound is minus infinity, that of the upper one plus infinity. -/
theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

/-- An array the two comparisons pass at an index is finite there. -/
theorem finite_at (x : EReal) (h : IntOp.andi (Ideal.cmp .ogt x (Ideal.ofBits .f32 0xFF800000#32)) (Ideal.cmp .olt x (Ideal.ofBits .f32 0x7F800000#32)) = 1#1) :
    x ≠ ⊥ ∧ x ≠ ⊤ := by
  obtain ⟨h1, h2⟩ := IntOp.andi_eq_one.1 h
  rw [bits_bot] at h1
  rw [bits_top] at h2
  exact ⟨bot_lt_iff_ne_bot.1 (of_bit h1), lt_top_iff_ne_top.1 (of_bit h2)⟩

/-- A word the two signed comparisons pass is below 16. -/
theorem word_at (x : BitVec 32) (h : IntOp.andi (IntOp.cmpi .sge x 0#32) (IntOp.cmpi .slt x 16#32) = 1#1) : x.toNat < 16 := by
  obtain ⟨h1, h2⟩ := IntOp.andi_eq_one.1 h
  have h1' : x.toNat < 2 ^ (32 - 1) := of_bit ((WordCmp.cmpi_sge_zero x).symm.trans h1)
  exact of_bit ((WordCmp.cmpi_slt_of_lt h1' (by decide)).symm.trans h2)

/-- The two words a signed comparison passes are in order, when both are below 16. -/
theorem le_at (x y : BitVec 32) (hx : x.toNat < 16) (hy : y.toNat < 16) (h : IntOp.cmpi .sle x y = 1#1) : x.toNat ≤ y.toNat :=
  of_bit ((WordCmp.cmpi_sle_of_lt (Nat.lt_trans hx (by norm_num)) (Nat.lt_trans hy (by norm_num))).symm.trans h)

/-- What the precondition gives. -/
structure Tame (x0 : FVec Ideal S16384x128 .f32) (x1 : FVec Ideal S2048x128 .f32) (x2 : IVec S16384 32) (x3 : IVec S2048 32)
    (x4 x5 : FVec Ideal S128x128 .f32) : Prop where
  fin0 : Finite x0
  fin1 : Finite x1
  fin4 : Finite x4
  fin5 : Finite x5
  lt2 : ∀ r : Fin 16384, (x2 (ix1 r)).toNat < 16
  lt3 : ∀ r : Fin 2048, (x3 (ix1 r)).toNat < 16
  step2 : ∀ (r : ℕ) (h : r + 1 < 16384), (x2 (ix1 ⟨r, Nat.lt_of_succ_lt h⟩)).toNat ≤ (x2 (ix1 ⟨r + 1, h⟩)).toNat
  step3 : ∀ (r : ℕ) (h : r + 1 < 2048), (x3 (ix1 ⟨r, Nat.lt_of_succ_lt h⟩)).toNat ≤ (x3 (ix1 ⟨r + 1, h⟩)).toNat

theorem tame (x0 : FVec Ideal S16384x128 .f32) (x1 : FVec Ideal S2048x128 .f32) (x2 : IVec S16384 32) (x3 : IVec S2048 32)
    (x4 x5 x6 : FVec Ideal S128x128 .f32) (h : fn (F := Ideal) x0 x1 x2 x3 x4 x5 x6 = fun _ => 1#1) : Tame x0 x1 x2 x3 x4 x5 := by
  have h0 := congrFun h ix0
  unfold fn fn_part1 fn_part2 at h0
  dsimp only at h0
  obtain ⟨ha, hb⟩ := IntOp.andi_eq_one.1 h0
  obtain ⟨hc, hd⟩ := IntOp.andi_eq_one.1 ha
  obtain ⟨r3, s3⟩ := IntOp.andi_eq_one.1 hb
  obtain ⟨r2, s2⟩ := IntOp.andi_eq_one.1 hd
  obtain ⟨he, f5⟩ := IntOp.andi_eq_one.1 hc
  obtain ⟨hf, f4⟩ := IntOp.andi_eq_one.1 he
  obtain ⟨f0, f1⟩ := IntOp.andi_eq_one.1 hf
  have lt2 : ∀ r : Fin 16384, (x2 (ix1 r)).toNat < 16 := fun r => word_at _ (Host.reduce_andi_all _ _ _ _ _ r2 (ix1 r))
  have lt3 : ∀ r : Fin 2048, (x3 (ix1 r)).toNat < 16 := fun r => word_at _ (Host.reduce_andi_all _ _ _ _ _ r3 (ix1 r))
  refine ⟨fun i => finite_at _ (Host.reduce_andi_all _ _ _ _ _ f0 i), fun i => finite_at _ (Host.reduce_andi_all _ _ _ _ _ f1 i),
    fun i => finite_at _ (Host.reduce_andi_all _ _ _ _ _ f4 i), fun i => finite_at _ (Host.reduce_andi_all _ _ _ _ _ f5 i), lt2, lt3, ?_, ?_⟩
  · intro r hr
    refine le_at _ _ (lt2 _) (lt2 _) ?_
    refine Eq.trans ?_ (Host.reduce_andi_all _ _ _ _ _ s2 (ix1 ⟨r, by omega⟩))
    refine congrArg₂ (IntOp.cmpi .sle) (congrArg x2 ?_) (congrArg x2 ?_)
    · funext a; apply Fin.ext; fin_cases a; show r = 0 + r; omega
    · funext a; apply Fin.ext; fin_cases a; show r + 1 = 1 + r; omega
  · intro r hr
    refine le_at _ _ (lt3 _) (lt3 _) ?_
    refine Eq.trans ?_ (Host.reduce_andi_all _ _ _ _ _ s3 (ix1 ⟨r, by omega⟩))
    refine congrArg₂ (IntOp.cmpi .sle) (congrArg x3 ?_) (congrArg x3 ?_)
    · funext a; apply Fin.ext; fin_cases a; show r = 0 + r; omega
    · funext a; apply Fin.ext; fin_cases a; show r + 1 = 1 + r; omega

end Cert.PreRead

end
-- ==== Proof.Segments.lean ====
/- On sorted lists of batch indices, every residue of an atom's batch lies in the chunks that the atom's block goes through. -/
module

public import proofs.«01_k».proof.Proof.Words
public import Idealize.ShloMosaic.Lib.WordCmp

@[expose] public section

noncomputable section

namespace Cert.Segments

open Idealize.ShloMosaic Idealize.ShloMosaic.ValueIdx Cert.KernelIdeal Cert.Words

/-- Steps that do not decrease make a list that does not decrease. -/
theorem mono_of_step {n : ℕ} (f : Fin n → ℕ) (h : ∀ (r : ℕ) (hr : r + 1 < n), f ⟨r, Nat.lt_of_succ_lt hr⟩ ≤ f ⟨r + 1, hr⟩)
    (a : Fin n) : ∀ (k : ℕ) (hk : a.val + k < n), f a ≤ f ⟨a.val + k, hk⟩
  | 0, _ => le_rfl
  | k + 1, hk => (mono_of_step f h a k (Nat.lt_of_succ_lt hk)).trans (h (a.val + k) hk)

theorem mono {n : ℕ} (f : Fin n → ℕ) (h : ∀ (r : ℕ) (hr : r + 1 < n), f ⟨r, Nat.lt_of_succ_lt hr⟩ ≤ f ⟨r + 1, hr⟩)
    (a b : Fin n) (hab : a.val ≤ b.val) : f a ≤ f b := by
  have := mono_of_step f h a (b.val - a.val) (by omega)
  convert this using 2
  exact Fin.ext (by simp; omega)

variable (ab : IVec S16384 32) (rb : IVec S2048 32) (hab : ∀ r : Fin 16384, (ab (ix1 r)).toNat < 16)
  (hrb : ∀ r : Fin 2048, (rb (ix1 r)).toNat < 16)
  (sab : ∀ (r : ℕ) (h : r + 1 < 16384), (ab (ix1 ⟨r, Nat.lt_of_succ_lt h⟩)).toNat ≤ (ab (ix1 ⟨r + 1, h⟩)).toNat)
  (srb : ∀ (r : ℕ) (h : r + 1 < 2048), (rb (ix1 ⟨r, Nat.lt_of_succ_lt h⟩)).toNat ≤ (rb (ix1 ⟨r + 1, h⟩)).toNat)

include hrb in
/-- The signed comparison of a residue's batch index with a small number, as numbers. -/
theorem slt_iff (j : Fin 2048) (b : ℕ) (hb : b < 16) : IntOp.cmpi .slt (rb (ix1 j)) (BitVec.ofNat 32 b) = 1#1 ↔ (rb (ix1 j)).toNat < b := by
  have e : (BitVec.ofNat 32 b).toNat = b := by rw [BitVec.toNat_ofNat]; exact Nat.mod_eq_of_lt (by omega)
  rw [WordCmp.cmpi_slt_of_lt (Nat.lt_trans (hrb j) (by norm_num)) (by rw [e]; exact Nat.lt_trans hb (by norm_num)), e]
  by_cases h : (rb (ix1 j)).toNat < b <;> simp [h]

include hrb in
theorem sle_iff (j : Fin 2048) (b : ℕ) (hb : b < 16) : IntOp.cmpi .sle (rb (ix1 j)) (BitVec.ofNat 32 b) = 1#1 ↔ (rb (ix1 j)).toNat ≤ b := by
  have e : (BitVec.ofNat 32 b).toNat = b := by rw [BitVec.toNat_ofNat]; exact Nat.mod_eq_of_lt (by omega)
  rw [WordCmp.cmpi_sle_of_lt (Nat.lt_trans (hrb j) (by norm_num)) (by rw [e]; exact Nat.lt_trans hb (by norm_num)), e]
  by_cases h : (rb (ix1 j)).toNat ≤ b <;> simp [h]

/-- How many of the 2048 residues come before residue `j`. -/
theorem card_below (n : ℕ) (hn : n ≤ 2048) : ∑ k : Fin 2048, (if k.val < n then 1 else 0 : ℕ) = n := by
  rw [Fin.sum_univ_eq_sum_range (fun k => if k < n then 1 else 0) 2048, ← Finset.sum_filter, Finset.sum_const, smul_eq_mul, mul_one]
  have : (Finset.range 2048).filter (· < n) = Finset.range n := by
    ext k; simp only [Finset.mem_filter, Finset.mem_range]; omega
  rw [this, Finset.card_range]

include hrb srb in
/-- The residues below a batch index that residue `j`'s is not below come before `j`. -/
theorem count_slt_le (j : Fin 2048) (b : ℕ) (hb : b < 16) (hj : b ≤ (rb (ix1 j)).toNat) : countOf .slt rb b ≤ j.val := by
  rw [← card_below j.val (by omega)]
  refine Finset.sum_le_sum fun k _ => ?_
  by_cases hk : k.val < j.val
  · rw [if_pos hk]; split_ifs <;> omega
  · have hm := mono (fun r => (rb (ix1 r)).toNat) srb j k (by omega)
    rw [if_neg fun hc => by have := (slt_iff rb hrb k b hb).1 hc; omega]
    omega

include hrb srb in
/-- The residues up to a batch index that residue `j`'s does not exceed include all up to `j`. -/
theorem lt_count_sle (j : Fin 2048) (b : ℕ) (hb : b < 16) (hj : (rb (ix1 j)).toNat ≤ b) : j.val + 1 ≤ countOf .sle rb b := by
  conv_lhs => rw [← card_below (j.val + 1) (by omega)]
  refine Finset.sum_le_sum fun k _ => ?_
  by_cases hk : k.val < j.val + 1
  · have hm := mono (fun r => (rb (ix1 r)).toNat) srb k j (by omega)
    rw [if_pos hk, if_pos ((sle_iff rb hrb k b hb).2 (hm.trans hj))]
  · rw [if_neg hk]; omega

include hab hrb sab srb in
/-- A residue of the batch of an atom of block `i` lies in the chunks between the block's bounds. -/
theorem chunk_of_match (i : Fin 8) (r : Fin 16384) (hr : 2048 * i.val ≤ r.val ∧ r.val ≤ 2048 * i.val + 2047) (j : Fin 2048)
    (h : ab (ix1 r) = rb (ix1 j)) :
    (loChunk ab rb (ix1 i)).toNat * 256 ≤ j.val
      ∧ j.val < ((loChunk ab rb (ix1 i)).toNat + ((hiChunk ab rb (ix1 i)).toNat - (loChunk ab rb (ix1 i)).toNat)) * 256 := by
  have e : (ab (ix1 r)).toNat = (rb (ix1 j)).toNat := congrArg BitVec.toNat h
  have m0 := mono (fun r => (ab (ix1 r)).toNat) sab ⟨2048 * i.val, by omega⟩ r hr.1
  have m1 := mono (fun r => (ab (ix1 r)).toNat) sab r ⟨2048 * i.val + 2047, by omega⟩ hr.2
  have h0 : startOf ab rb i ≤ j.val := by
    unfold startOf
    rw [if_pos (hab _)]
    exact count_slt_le rb hrb srb j _ (hab _) (by omega)
  have h1 : j.val + 1 ≤ endOf ab rb i := by
    unfold endOf
    rw [if_pos (hab _)]
    exact lt_count_sle rb hrb srb j _ (hab _) (by omega)
  rw [loChunk_toNat, hiChunk_toNat]
  omega

end Cert.Segments

end
-- ==== Proof.BlockRow.lean ====
/- One entry of the kernel's result: the atom's entry and the quotient of two sums over all residues. -/
module

public import proofs.«01_k».proof.Proof.Array
public import proofs.«01_k».proof.Proof.LoopSums
public import proofs.«01_k».proof.Proof.PreRead
public import proofs.«01_k».proof.Proof.Segments

@[expose] public section

noncomputable section

namespace Cert.KernelIdeal.BlockRow

open Idealize.ShloMosaic hiding ix0 ix1 ix2 ix3 ix4 ix5
open Idealize.ShloMosaic.ValueIdx Idealize.ShloMosaic.TcCoe Idealize.SL.Sem Cert.KernelIdeal Cert.KernelIdeal.Gen Cert.KernelIdeal.Payloads Cert.KernelIdeal.LoopSums
  Cert.KernelIdeal.Array

/-- The row of the whole array that row `p` of block `t` is. -/
def row (t : Fin 8) (p : Fin 2048) : Fin 16384 := ⟨2048 * t.val + p.val, by omega⟩

/-- The batch index of row `p` of block `t`, as the launch's reshaped list gives it. -/
theorem atomIds_apply (ab : IVec S16384 32) (t : Fin 8) (p : Fin 2048) :
    atomIds (F := Ideal) (shapeCast S8x1x2048 ab shapeCasts_S16384_S8x1x2048) t (ix3 0 0 p) = ab (ix1 (row t p)) := by
  unfold atomIds
  refine shapeCast_apply ab _ _ (ix1 (row t p)) ?_
  rw [Shape.rowMajor_val_one, Shape.rowMajor_val_three]
  show (2048 * t.val + p.val) = (t.val * 1 + 0) * 2048 + p.val
  omega

/-- The batch index of residue `j`, as the launch's reshaped list gives it. -/
theorem resIds_apply (rb : IVec S2048 32) (j : Fin 2048) :
    shapeCast S1x2048 rb shapeCasts_S2048_S1x2048 (ix2 0 j) = rb (ix1 j) := by
  refine shapeCast_apply rb _ _ (ix1 j) ?_
  rw [Shape.rowMajor_val_one, Shape.rowMajor_val_two]
  show j.val = 0 * 2048 + j.val
  omega

/-- The query of an atom, the key and the value of a residue. -/
def qry (x0 : FVec Ideal S16384x128 .f32) (x4 : FVec Ideal S128x128 .f32) (r : Fin 16384) (h : Fin 128) : EReal :=
  ∑ k : Fin 128, x0 (ix2 r k) * x4 (ix2 k h)

def key (x1 : FVec Ideal S2048x128 .f32) (x5 : FVec Ideal S128x128 .f32) (j : Fin 2048) (h : Fin 128) : EReal :=
  ∑ k : Fin 128, x1 (ix2 j k) * x5 (ix2 k h)

/-- The weight atom `r` gives residue `j`. -/
def wgt (x0 : FVec Ideal S16384x128 .f32) (x1 : FVec Ideal S2048x128 .f32) (x2 : IVec S16384 32) (x3 : IVec S2048 32)
    (x4 x5 : FVec Ideal S128x128 .f32) (r : Fin 16384) (j : Fin 2048) : EReal :=
  weight (x2 (ix1 r)) (x3 (ix1 j)) (∑ h : Fin 128, (qry x0 x4 r h * kappa) * key x1 x5 j h)

variable (x0 : FVec Ideal S16384x128 .f32) (x1 : FVec Ideal S2048x128 .f32) (x2 : IVec S16384 32) (x3 : IVec S2048 32)
  (x4 x5 x6 : FVec Ideal S128x128 .f32)

/-- The weights of a block's row are those of the row of the whole array. -/
theorem wt_eq (t : Fin 8) (p j : Fin 2048) :
    wt (atomRows x0 t) x4 (atomIds (F := Ideal) (shapeCast S8x1x2048 x2 shapeCasts_S16384_S8x1x2048) t)
        (shapeCast S1x2048 x3 shapeCasts_S2048_S1x2048) (k0_pay1 (F := Ideal) x1 x5) p j
      = wgt x0 x1 x2 x3 x4 x5 (row t p) j := by
  unfold wt wgt
  rw [atomIds_apply, resIds_apply]
  congr 1
  refine Finset.sum_congr rfl fun h _ => ?_
  rw [pay3_apply, pay1_apply]
  rfl

/-- A residue of another batch has no weight. -/
theorem wgt_of_ne (r : Fin 16384) (j : Fin 2048) (h : x2 (ix1 r) ≠ x3 (ix1 j)) : wgt x0 x1 x2 x3 x4 x5 r j = 0 := by
  have e : IntOp.cmpi .eq (x2 (ix1 r)) (x3 (ix1 j)) = 0#1 := by
    show BitVec.ofBool (x2 (ix1 r) == x3 (ix1 j)) = 0#1
    rw [beq_eq_false_iff_ne.mpr h]
    rfl
  unfold wgt weight
  rw [e, select_zero]

variable (ht : PreRead.Tame x0 x1 x2 x3 x4 x5)

include ht in
/-- The block's entry. -/
theorem block (t : Fin 8) (p : Fin 2048) (d : Fin 128)
    (hw : k0_chk1 (Words.loChunk x2 x3 (ix1 t)) (Words.hiChunk x2 x3 (ix1 t))) :
    Block.blockOut (Words.loChunk x2 x3 (ix1 t)) (Words.hiChunk x2 x3 (ix1 t)) hw (atomRows x0 t) x4
        (atomIds (F := Ideal) (shapeCast S8x1x2048 x2 shapeCasts_S16384_S8x1x2048) t)
        (shapeCast S1x2048 x3 shapeCasts_S2048_S1x2048) (k0_pay1 (F := Ideal) x1 x5) (k0_pay2 (F := Ideal) x1 x6) (ix2 p d)
      = x0 (ix2 (row t p) d) + gated (∑ j : Fin 2048, wgt x0 x1 x2 x3 x4 x5 (row t p) j)
          (∑ j : Fin 2048, wgt x0 x1 x2 x3 x4 x5 (row t p) j * key x1 x6 j d) := by
  have h4 := Words.loChunk_le x2 x3 t
  have h6 := Words.hiChunk_le x2 x3 t
  rw [blockOut_apply _ _ hw h4 h6 _ _ _ _ _ _ p d (trips_of_le _ _ h4 h6).2]
  · have e := fun j : Fin 2048 => wt_eq x0 x1 x2 x3 x4 x5 t p j
    exact congrArg (x0 (ix2 (row t p) d) + ·) (congrArg₂ gated (Finset.sum_congr rfl fun j _ => e j)
      (Finset.sum_congr rfl fun j _ => congrArg₂ (· * ·) (e j) (pay2_apply x1 x6 j d)))
  · intro j hj
    refine (wt_eq x0 x1 x2 x3 x4 x5 t p j).trans ?_
    refine wgt_of_ne _ _ _ _ _ _ _ _ fun e => hj ?_
    exact Segments.chunk_of_match x2 x3 ht.lt2 ht.lt3 ht.step2 ht.step3 t (row t p)
      ⟨Nat.le_add_right _ _, by show 2048 * t.val + p.val ≤ _; omega⟩ j e

/-- An entry of the kernel's result. -/
theorem result_apply (m : (ℓ : Loc nD τ sig) → Buf (Elt Ideal) ℓ) (c : Dev nD)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (ht : PreRead.Tame x0 x1 x2 x3 x4 x5) (r : Fin 16384) (d : Fin 128) :
    result m c (ix2 r d) = x0 (ix2 r d) + gated (∑ j : Fin 2048, wgt x0 x1 x2 x3 x4 x5 r j)
      (∑ j : Fin 2048, wgt x0 x1 x2 x3 x4 x5 r j * key x1 x6 j d) := by
  subst h0 h1 h2 h3 h4 h5 h6
  have e : row ⟨r.val / 2048, by omega⟩ ⟨r.val % 2048, Nat.mod_lt _ (by omega)⟩ = r :=
    Fin.ext (by show 2048 * (r.val / 2048) + r.val % 2048 = r.val; omega)
  have h := block _ _ _ _ _ _ (m ((c : Thread nD τ).loc main_arg6)) ht ⟨r.val / 2048, by omega⟩ ⟨r.val % 2048, Nat.mod_lt _ (by omega)⟩ d
    (chk m c ⟨r.val / 2048, by omega⟩)
  rw [e] at h
  exact h

end Cert.KernelIdeal.BlockRow

end
-- ==== Proof.RowMath.lean ====
/- One row's equation over the extended reals: weighting by plain exponentials and dividing once at the end gives what a softmax over
   the masked scores gives, and both give nothing on a row without a residue. -/
module

public import Idealize.ShloMosaic.PureOps.Ideal
public import Idealize.ShloMosaic.Lib.Affine
public import Idealize.ShloMosaic.Lib.ValueIdx
public import Idealize.ShloMosaic.PureOps.Reduce
public import Mathlib.Data.Finset.Fold

@[expose] public section

noncomputable section

namespace Cert.RowMath

open Idealize.ShloMosaic Finset

variable {n : ℕ}

/-- A sum of reals, taken among the extended reals. -/
theorem coe_sum (S : Finset (Fin n)) (f : Fin n → ℝ) : ((∑ j ∈ S, f j : ℝ) : EReal) = ∑ j ∈ S, ((f j : ℝ) : EReal) := by
  classical
  induction S using Finset.induction_on with
  | empty => simp
  | insert a S ha ih => rw [sum_insert ha, sum_insert ha, EReal.coe_add, ih]

/-- A nonnegative real factor goes into a sum of extended reals. -/
theorem sum_mul_coe (S : Finset (Fin n)) (f : Fin n → EReal) {c : ℝ} (hc : 0 ≤ c) :
    (∑ j ∈ S, f j) * (c : EReal) = ∑ j ∈ S, f j * (c : EReal) := by
  classical
  induction S using Finset.induction_on with
  | empty => simp
  | insert a S ha ih =>
    rw [sum_insert ha, sum_insert ha, EReal.right_distrib_of_nonneg_of_ne_top (EReal.coe_nonneg.2 hc) (EReal.coe_ne_top c), ih]

/-- The quotient by a sum of weights, zero where that sum is zero. -/
def quotient (l acc : EReal) : EReal :=
  Scalar.select (Ideal.cmp .ogt l 0) (Ideal.div acc (Scalar.select (Ideal.cmp .ogt l 0) l 1)) 0

theorem quotient_zero (acc : EReal) : quotient 0 acc = 0 := by
  have h : Ideal.cmp .ogt 0 0 = 0#1 := by simp [Ideal.cmp]
  unfold quotient
  rw [h]
  rfl

theorem quotient_pos {l : ℝ} (hl : 0 < l) (acc : EReal) : quotient (l : EReal) acc = acc * ((1 / l : ℝ) : EReal) := by
  have h : Ideal.cmp .ogt (l : EReal) 0 = 1#1 := by
    have : (0 : EReal) < (l : EReal) := EReal.coe_pos.2 hl
    simp [Ideal.cmp, this]
  unfold quotient
  rw [h]
  exact Ideal.div_coe (ne_of_gt hl) acc

/-- A disjunction over bits is one exactly when one of them is. -/
theorem fold_ori_eq_one (b : Fin n → BitVec 1) (S : Finset (Fin n)) : S.fold IntOp.ori 0#1 b = 1#1 ↔ ∃ j ∈ S, b j = 1#1 := by
  classical
  induction S using Finset.induction_on with
  | empty => simp
  | insert a S ha ih =>
    rw [fold_insert ha, IntOp.ori_eq_one, ih]
    simp

variable (b : Fin n → BitVec 1) (s : Fin n → ℝ)

/-- The real weight of an entry: its score's exponential where the mask holds, zero elsewhere. -/
def w (j : Fin n) : ℝ := if b j = 1#1 then Real.exp (s j) else 0

/-- The masked score. -/
def z (j : Fin n) : EReal := Scalar.select (b j) (s j : EReal) ⊥

/-- The greatest masked score. -/
def top : EReal := max ⊥ ((univ : Finset (Fin n)).fold max ⊥ (z b s))

theorem w_nonneg (j : Fin n) : 0 ≤ w b s j := by
  unfold w; split_ifs
  · exact (Real.exp_pos _).le
  · exact le_rfl

theorem z_ne_top (j : Fin n) : z b s j ≠ ⊤ := by
  unfold z Scalar.select; split_ifs
  · exact EReal.coe_ne_top _
  · exact bot_ne_top

/-- The kernel's weight is the real weight. -/
theorem weight_eq (j : Fin n) : Scalar.select (b j) (Ideal.exp (s j : EReal)) 0 = ((w b s j : ℝ) : EReal) := by
  unfold w
  rcases BitVec.eq_zero_or_eq_one (b j) with h | h
  · rw [h, if_neg (by decide)]; rfl
  · rw [h, if_pos rfl]; rfl

/-- On a row with a residue the greatest masked score is a real number. -/
theorem top_real {j₀ : Fin n} (h : b j₀ = 1#1) : ∃ μ : ℝ, top b s = (μ : EReal) := by
  have h1 : top b s ≠ ⊥ := by
    refine (lt_of_lt_of_le (EReal.bot_lt_coe (s j₀)) ?_).ne'
    refine le_max_of_le_right ((le_fold_max _).2 (Or.inr ⟨j₀, mem_univ _, ?_⟩))
    unfold z; rw [h]; exact le_rfl
  have h2 : top b s ≠ ⊤ := by
    refine (max_lt bot_lt_top ((fold_max_lt _).2 ⟨bot_lt_top, fun j _ => ?_⟩)).ne
    exact lt_top_iff_ne_top.2 (z_ne_top b s j)
  exact ⟨(top b s).toReal, (EReal.coe_toReal h2 h1).symm⟩

/-- A shifted exponential of a masked score is the real weight times one factor. -/
theorem exp_shift (μ : ℝ) (j : Fin n) : Ideal.exp (z b s j - (μ : EReal)) = ((w b s j * Real.exp (-μ) : ℝ) : EReal) := by
  unfold z w
  rcases BitVec.eq_zero_or_eq_one (b j) with h | h
  · rw [h, if_neg (by decide), zero_mul]
    show Ideal.exp (⊥ - (μ : EReal)) = _
    rw [EReal.bot_sub]; rfl
  · rw [h, if_pos rfl, ← Real.exp_add]
    show Ideal.exp ((s j : EReal) - (μ : EReal)) = _
    rw [← EReal.coe_sub, Ideal.exp_coe, sub_eq_add_neg]

variable (V : Fin n → EReal)

/-- A row's equation. -/
theorem row :
    quotient (∑ j, Scalar.select (b j) (Ideal.exp (s j : EReal)) 0) (∑ j, Scalar.select (b j) (Ideal.exp (s j : EReal)) 0 * V j)
      = Scalar.select ((univ : Finset (Fin n)).fold IntOp.ori 0#1 b)
          (∑ j, Ideal.div (Ideal.exp (z b s j - top b s)) (∑ k, Ideal.exp (z b s k - top b s)) * V j) 0 := by
  simp only [weight_eq]
  by_cases hb : ∃ j, b j = 1#1
  · obtain ⟨j₀, h⟩ := hb
    obtain ⟨μ, hμ⟩ := top_real b s h
    have hL : 0 < ∑ j, w b s j :=
      sum_pos' (fun j _ => w_nonneg b s j) ⟨j₀, mem_univ _, by unfold w; rw [if_pos h]; exact Real.exp_pos _⟩
    have hD : (∑ j, w b s j) * Real.exp (-μ) ≠ 0 := ne_of_gt (mul_pos hL (Real.exp_pos _))
    rw [(fold_ori_eq_one b univ).2 ⟨j₀, mem_univ _, h⟩, ← coe_sum, quotient_pos hL, hμ]
    simp only [exp_shift]
    rw [← coe_sum, ← sum_mul]
    rw [ValueIdx.select_one]
    rw [sum_mul_coe _ _ (by positivity)]
    refine sum_congr rfl fun j _ => ?_
    rw [Ideal.div_coe hD, mul_right_comm, ← EReal.coe_mul, ← EReal.coe_mul]
    congr 2
    field_simp
  · have hb' : ∀ j, b j ≠ 1#1 := fun j h => hb ⟨j, h⟩
    have hw : ∀ j, w b s j = 0 := fun j => if_neg (hb' j)
    have hf : (univ : Finset (Fin n)).fold IntOp.ori 0#1 b = 0#1 := by
      rcases BitVec.eq_zero_or_eq_one ((univ : Finset (Fin n)).fold IntOp.ori 0#1 b) with h | h
      · exact h
      · obtain ⟨j, _, hj⟩ := (fold_ori_eq_one b univ).1 h
        exact absurd hj (hb' j)
    rw [hf]
    simp only [hw, EReal.coe_zero, sum_const_zero]
    exact quotient_zero _

end Cert.RowMath

end
-- ==== Proof.Scores.lean ====
/- On finite arrays a score is one real number, whether the queries are scaled before their products with the keys or the products are
   divided after. -/
module

public import proofs.«01_k».proof.Proof.RowMath
public import proofs.«01_k».proof.Proof.Payloads

@[expose] public section

noncomputable section

namespace Cert.Scores

open Idealize.ShloMosaic Finset Cert.RowMath

variable {n : ℕ}

/-- The scale the kernel names is the inverse of the square root of 128. -/
theorem kappa_eq : Cert.KernelIdeal.Payloads.kappa = (((Real.sqrt 128)⁻¹ : ℝ) : EReal) :=
  IdealRules.named_const.ideal_named_scalar _ _ _ _ rfl

/-- The reference's divisor is the square root of 128. -/
theorem divisor_eq : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    norm_num
    rw [← EReal.coe_mul]
    norm_num
  rw [h]
  show (if (128 : ℝ) < 0 then ⊥ else ((Real.sqrt 128 : ℝ) : EReal)) = _
  rw [if_neg (by norm_num)]

/-- A sum of products of finite numbers is the real one. -/
theorem sum_mul_real (x y : Fin n → EReal) (hx : ∀ k, x k ≠ ⊥ ∧ x k ≠ ⊤) (hy : ∀ k, y k ≠ ⊥ ∧ y k ≠ ⊤) :
    ∑ k, x k * y k = ((∑ k, (x k).toReal * (y k).toReal : ℝ) : EReal) := by
  rw [coe_sum]
  refine sum_congr rfl fun k _ => ?_
  rw [EReal.coe_mul, EReal.coe_toReal (hx k).2 (hx k).1, EReal.coe_toReal (hy k).2 (hy k).1]

/-- Products of scaled queries with keys, summed. -/
theorem scaled_before (q k : Fin n → ℝ) (c : ℝ) :
    ∑ h, (((q h : ℝ) : EReal) * ((c⁻¹ : ℝ) : EReal)) * ((k h : ℝ) : EReal) = (((∑ h, q h * k h) / c : ℝ) : EReal) := by
  rw [div_eq_mul_inv, sum_mul, coe_sum]
  refine sum_congr rfl fun h _ => ?_
  rw [← EReal.coe_mul, ← EReal.coe_mul]
  congr 1
  ring

/-- Products of queries with keys, summed and then divided. -/
theorem divided_after (q k : Fin n → ℝ) {c : ℝ} (hc : c ≠ 0) :
    Ideal.div (∑ h, ((q h : ℝ) : EReal) * ((k h : ℝ) : EReal)) (c : EReal) = (((∑ h, q h * k h) / c : ℝ) : EReal) := by
  rw [Ideal.div_coe hc, one_div, div_eq_mul_inv _ c, EReal.coe_mul, coe_sum]
  refine congrArg (· * ((c⁻¹ : ℝ) : EReal)) (sum_congr rfl fun h _ => ?_)
  exact (EReal.coe_mul _ _).symm

end Cert.Scores

end
-- ==== Proof.RefStages.lean ====
/- What each stage of the reference holds at an index, in terms of the stage before it. -/
module

public import proofs.«01_k».proof.Proof.Gen.ReferenceIdeal.Read
public import Idealize.ShloMosaic.Lib.Pointwise
public import Idealize.ShloMosaic.Lib.ValueIdx

@[expose] public section

noncomputable section

namespace Cert.RefStages

open Idealize.ShloMosaic hiding ix0 ix1 ix2 ix3 ix4 ix5
open Idealize.ShloMosaic.ValueIdx Cert.ReferenceIdeal Cert.ReferenceIdeal.Read

/-- A reduction by the maximum along the rows of an array, at row `r`: the maximum of that row's entries. -/
theorem reduce_rows_max {n k : ℕ} (Z : FVec Ideal ⟨2, ![n, k]⟩ .f32) (init : FVec Ideal S_ .f32)
    (h : (⟨2, ![n, k]⟩ : Shape).ReducesTo [1] ⟨1, ![n]⟩) (hu : 0 < S_.numel) (r : Fin n) :
    Host.reduce (FloatOps.maximumf (F := Ideal) (φ := .f32)) Z init h hu (ix1 r)
      = (Finset.univ : Finset (Fin k)).fold max (init (Shape.Idx.first hu)) fun j => Z (ix2 r j) := by
  rw [Host.reduce_eq_fold, h.fold_fiber_r2_a1]
  rfl

variable (x0 : FVec Ideal S16384x128 .f32) (x1 : FVec Ideal S2048x128 .f32) (x2 : IVec S16384 32) (x3 : IVec S2048 32)
  (x4 x5 x6 : FVec Ideal S128x128 .f32)

/-- The queries. -/
theorem query (r : Fin 16384) (h : Fin 128) : val_main_v1 (F := Ideal) x0 x4 (ix2 r h) = ∑ k : Fin 128, x0 (ix2 r k) * x4 (ix2 k h) := by
  pointwise [val_main_v1]
  simp only [ix2_eq_valueIdx]

/-- The keys. -/
theorem key (j : Fin 2048) (h : Fin 128) : val_main_v2 (F := Ideal) x1 x5 (ix2 j h) = ∑ k : Fin 128, x1 (ix2 j k) * x5 (ix2 k h) := by
  pointwise [val_main_v2]
  simp only [ix2_eq_valueIdx]

/-- The values. -/
theorem value (j : Fin 2048) (d : Fin 128) : val_main_v3 (F := Ideal) x1 x6 (ix2 j d) = ∑ k : Fin 128, x1 (ix2 j k) * x6 (ix2 k d) := by
  pointwise [val_main_v3]
  simp only [ix2_eq_valueIdx]

/-- The scores: the products of queries and keys over the square root. -/
theorem score (r : Fin 16384) (j : Fin 2048) :
    val_main_v7 (F := Ideal) x0 x1 x4 x5 (ix2 r j)
      = Ideal.div (∑ h : Fin 128, val_main_v1 (F := Ideal) x0 x4 (ix2 r h) * val_main_v2 (F := Ideal) x1 x5 (ix2 j h))
          (Ideal.sqrt (Ideal.ofBits .f32 0x43000000#32)) := by
  unfold val_main_v7 val_main_v5 val_main_v4
  generalize val_main_v1 (F := Ideal) x0 x4 = Q
  generalize val_main_v2 (F := Ideal) x1 x5 = K
  pointwise [val_main_v6, val_main_v0, val_main_cst]
  simp only [ix2_eq_valueIdx]

/-- Where an atom and a residue share a batch. -/
theorem shared (r : Fin 16384) (j : Fin 2048) :
    val_main_v12 (F := Ideal) x2 x3 (ix2 r j) = IntOp.cmpi .eq (x2 (ix1 r)) (x3 (ix1 j)) := by
  pointwise [val_main_v12, val_main_v11, val_main_v10, val_main_v9, val_main_v8]
  rfl

/-- The masked scores. -/
theorem masked (r : Fin 16384) (j : Fin 2048) :
    val_main_v13 (F := Ideal) x0 x1 x2 x3 x4 x5 (ix2 r j)
      = Scalar.select (IntOp.cmpi .eq (x2 (ix1 r)) (x3 (ix1 j))) (val_main_v7 (F := Ideal) x0 x1 x4 x5 (ix2 r j)) (Ideal.ofBits .f32 0xFF800000#32) := by
  rw [val_main_v13_apply, shared]
  rfl

/-- A row's greatest masked score. -/
theorem rowMax (r : Fin 16384) :
    val_main_v16 (F := Ideal) x0 x1 x2 x3 x4 x5 (ix1 r)
      = max (Ideal.ofBits .f32 0xFF800000#32) ((Finset.univ : Finset (Fin 2048)).fold max (Ideal.ofBits .f32 0xFF800000#32)
          fun j => val_main_v13 (F := Ideal) x0 x1 x2 x3 x4 x5 (ix2 r j)) := by
  rw [val_main_v16_apply, val_main_v15_apply, val_main_cst_2_apply]
  unfold val_main_v14
  generalize val_main_v13 (F := Ideal) x0 x1 x2 x3 x4 x5 = Z
  rw [reduce_rows_max Z (val_main_cst_1 (F := Ideal)) _ _ r, val_main_cst_1_apply, Ideal.ofBits_def, Ideal.maximumf_def]

/-- The exponentials of the masked scores less the row's greatest. -/
theorem expo (r : Fin 16384) (j : Fin 2048) :
    val_main_v20 (F := Ideal) x0 x1 x2 x3 x4 x5 (ix2 r j)
      = Ideal.exp (val_main_v13 (F := Ideal) x0 x1 x2 x3 x4 x5 (ix2 r j) - val_main_v16 (F := Ideal) x0 x1 x2 x3 x4 x5 (ix1 r)) := by
  unfold val_main_v20 val_main_v19 val_main_v18 val_main_v17
  generalize val_main_v13 (F := Ideal) x0 x1 x2 x3 x4 x5 = Z
  generalize val_main_v16 (F := Ideal) x0 x1 x2 x3 x4 x5 = M
  pointwise
  rfl

/-- A row's sum of exponentials. -/
theorem rowSum (r : Fin 16384) :
    val_main_v21 (F := Ideal) x0 x1 x2 x3 x4 x5 (ix1 r)
      = ∑ j : Fin 2048, val_main_v20 (F := Ideal) x0 x1 x2 x3 x4 x5 (ix2 r j) := by
  unfold val_main_v21
  generalize val_main_v20 (F := Ideal) x0 x1 x2 x3 x4 x5 = E
  pointwise [val_main_cst_3]
  simp only [ix2_eq_valueIdx]

/-- The softmax weights. -/
theorem alpha (r : Fin 16384) (j : Fin 2048) :
    val_main_v24 (F := Ideal) x0 x1 x2 x3 x4 x5 (ix2 r j)
      = Ideal.div (val_main_v20 (F := Ideal) x0 x1 x2 x3 x4 x5 (ix2 r j)) (val_main_v21 (F := Ideal) x0 x1 x2 x3 x4 x5 (ix1 r)) := by
  unfold val_main_v24 val_main_v23 val_main_v22
  generalize val_main_v20 (F := Ideal) x0 x1 x2 x3 x4 x5 = E
  generalize val_main_v21 (F := Ideal) x0 x1 x2 x3 x4 x5 = D
  pointwise
  rfl

/-- The weighted means of the values. -/
theorem mean (r : Fin 16384) (d : Fin 128) :
    val_main_v25 (F := Ideal) x0 x1 x2 x3 x4 x5 x6 (ix2 r d)
      = ∑ j : Fin 2048, val_main_v24 (F := Ideal) x0 x1 x2 x3 x4 x5 (ix2 r j) * val_main_v3 (F := Ideal) x1 x6 (ix2 j d) := by
  unfold val_main_v25
  generalize val_main_v24 (F := Ideal) x0 x1 x2 x3 x4 x5 = A
  generalize val_main_v3 (F := Ideal) x1 x6 = V
  pointwise
  simp only [ix2_eq_valueIdx]

/-- Whether an atom has any residue in its batch. -/
theorem hasAny (r : Fin 16384) :
    val_main_v26 (F := Ideal) x2 x3 (ix1 r)
      = (Finset.univ : Finset (Fin 2048)).fold IntOp.ori 0#1 fun j => val_main_v12 (F := Ideal) x2 x3 (ix2 r j) := by
  unfold val_main_v26
  generalize val_main_v12 (F := Ideal) x2 x3 = B
  pointwise [val_main_c]
  simp only [ix2_eq_valueIdx]

/-- The result: the atom's entry, and the mean where the atom has a residue. -/
theorem out (r : Fin 16384) (d : Fin 128) :
    val_main_v30 (F := Ideal) x0 x1 x2 x3 x4 x5 x6 (ix2 r d)
      = x0 (ix2 r d) + Scalar.select (val_main_v26 (F := Ideal) x2 x3 (ix1 r)) (val_main_v25 (F := Ideal) x0 x1 x2 x3 x4 x5 x6 (ix2 r d)) 0 := by
  unfold val_main_v30 val_main_v29 val_main_call1_v0 val_main_v27
  generalize val_main_v26 (F := Ideal) x2 x3 = B
  generalize val_main_v25 (F := Ideal) x0 x1 x2 x3 x4 x5 x6 = C
  pointwise [val_main_v28, val_main_cst_4]
  rfl

end Cert.RefStages

end
-- ==== Proof.Equation.lean ====
/- On tame inputs the kernel's result is the reference's. -/
module

public import proofs.«01_k».proof.Proof.BlockRow
public import proofs.«01_k».proof.Proof.Scores
public import proofs.«01_k».proof.Proof.RefStages

@[expose] public section

noncomputable section

namespace Cert.Equation

open Idealize.ShloMosaic hiding ix0 ix1 ix2 ix3 ix4 ix5
open Idealize.ShloMosaic.ValueIdx Cert.KernelIdeal.BlockRow Cert.ReferenceIdeal Cert.ReferenceIdeal.Read Finset

variable [Cert.Pre_inputs_tame.Facts]

variable (x0 : FVec Ideal S16384x128 .f32) (x1 : FVec Ideal S2048x128 .f32) (x2 : IVec S16384 32) (x3 : IVec S2048 32)
  (x4 x5 x6 : FVec Ideal S128x128 .f32) (ht : PreRead.Tame x0 x1 x2 x3 x4 x5)

/-- The score of atom `r` and residue `j`, as a real number. -/
def score (r : Fin 16384) (j : Fin 2048) : ℝ :=
  (∑ h : Fin 128, (qry x0 x4 r h).toReal * (key x1 x5 j h).toReal) / Real.sqrt 128

theorem sqrt_ne : Real.sqrt 128 ≠ 0 := (Real.sqrt_pos.mpr (by norm_num)).ne'

include ht

theorem qry_real (r : Fin 16384) (h : Fin 128) : ((qry x0 x4 r h).toReal : EReal) = qry x0 x4 r h := by
  have e := Scores.sum_mul_real (fun k : Fin 128 => x0 (ix2 r k)) (fun k => x4 (ix2 k h)) (fun k => ht.fin0 _) (fun k => ht.fin4 _)
  have e' : qry x0 x4 r h = _ := e
  rw [e', EReal.toReal_coe]

theorem key_real (j : Fin 2048) (h : Fin 128) : ((key x1 x5 j h).toReal : EReal) = key x1 x5 j h := by
  have e := Scores.sum_mul_real (fun k : Fin 128 => x1 (ix2 j k)) (fun k => x5 (ix2 k h)) (fun k => ht.fin1 _) (fun k => ht.fin5 _)
  have e' : key x1 x5 j h = _ := e
  rw [e', EReal.toReal_coe]

/-- The kernel's weight is the exponential of the score where the words agree, and zero elsewhere. -/
theorem wgt_score (r : Fin 16384) (j : Fin 2048) :
    wgt x0 x1 x2 x3 x4 x5 r j
      = Scalar.select (IntOp.cmpi .eq (x2 (ix1 r)) (x3 (ix1 j))) (Ideal.exp (score x0 x1 x4 x5 r j : EReal)) 0 := by
  have e := Scores.scaled_before (fun h => (qry x0 x4 r h).toReal) (fun h => (key x1 x5 j h).toReal) (Real.sqrt 128)
  simp only [qry_real x0 x1 x2 x3 x4 x5 ht, key_real x0 x1 x2 x3 x4 x5 ht] at e
  unfold wgt Cert.KernelIdeal.Payloads.weight
  rw [Scores.kappa_eq, e]
  rfl

/-- The reference's score. -/
theorem ref_score (r : Fin 16384) (j : Fin 2048) :
    val_main_v7 (F := Ideal) x0 x1 x4 x5 (ix2 r j) = (score x0 x1 x4 x5 r j : EReal) := by
  have e := Scores.divided_after (fun h => (qry x0 x4 r h).toReal) (fun h => (key x1 x5 j h).toReal) sqrt_ne
  simp only [qry_real x0 x1 x2 x3 x4 x5 ht, key_real x0 x1 x2 x3 x4 x5 ht] at e
  rw [RefStages.score, Scores.divisor_eq]
  refine Eq.trans ?_ e
  refine congrArg (Ideal.div · _) (sum_congr rfl fun h _ => ?_)
  rw [RefStages.query, RefStages.key]
  rfl

/-- The reference's masked score. -/
theorem ref_masked (r : Fin 16384) (j : Fin 2048) :
    val_main_v13 (F := Ideal) x0 x1 x2 x3 x4 x5 (ix2 r j)
      = RowMath.z (fun j => IntOp.cmpi .eq (x2 (ix1 r)) (x3 (ix1 j))) (score x0 x1 x4 x5 r) j := by
  rw [RefStages.masked, ref_score x0 x1 x2 x3 x4 x5 ht, PreRead.bits_bot]
  rfl

/-- The reference's greatest score. -/
theorem ref_max (r : Fin 16384) :
    val_main_v16 (F := Ideal) x0 x1 x2 x3 x4 x5 (ix1 r)
      = RowMath.top (fun j => IntOp.cmpi .eq (x2 (ix1 r)) (x3 (ix1 j))) (score x0 x1 x4 x5 r) := by
  rw [RefStages.rowMax, PreRead.bits_bot]
  simp only [ref_masked x0 x1 x2 x3 x4 x5 ht]
  rfl

/-- The reference's entry, in a row's words. -/
theorem ref_entry (r : Fin 16384) (d : Fin 128) :
    val_main_v30 (F := Ideal) x0 x1 x2 x3 x4 x5 x6 (ix2 r d)
      = x0 (ix2 r d) + RowMath.quotient (∑ j : Fin 2048, wgt x0 x1 x2 x3 x4 x5 r j)
          (∑ j : Fin 2048, wgt x0 x1 x2 x3 x4 x5 r j * key x1 x6 j d) := by
  have e := RowMath.row (fun j : Fin 2048 => IntOp.cmpi .eq (x2 (ix1 r)) (x3 (ix1 j))) (score x0 x1 x4 x5 r) (fun j => key x1 x6 j d)
  simp only [← wgt_score x0 x1 x2 x3 x4 x5 ht] at e
  rw [e, RefStages.out, RefStages.hasAny, RefStages.mean]
  simp only [RefStages.alpha, RefStages.rowSum, RefStages.expo, RefStages.shared, RefStages.value, ref_masked x0 x1 x2 x3 x4 x5 ht,
    ref_max x0 x1 x2 x3 x4 x5 ht]
  rfl

end Cert.Equation

end
-- ==== Proof.Equal.lean ====
/- The value claim: run from the same tame arguments, the kernel and the reference end with the same array. -/
module

public import proofs.«01_k».proof.Defs
public import proofs.«01_k».proof.Proof.KernelRun
public import proofs.«01_k».proof.Proof.Equation
public import proofs.«01_k».proof.Proof.Gen.ReferenceIdeal.Run
public import proofs.«01_k».proof.Proof.Gen.Pre_inputs_tame

@[expose] public section

noncomputable section

namespace Cert.Equal

open Idealize.ShloMosaic hiding ix0 ix1 ix2 ix3 ix4 ix5
open Idealize.ShloMosaic.ValueIdx Idealize.SL.Sem

/-- On tame arguments the kernel's array is the reference's last stage. -/
theorem result_eq (m : (ℓ : Loc Cert.KernelIdeal.nD Cert.KernelIdeal.τ Cert.KernelIdeal.sig) → Buf (Elt Ideal) ℓ) (c : Dev Cert.KernelIdeal.nD)
    (x0 : FVec Ideal Cert.ReferenceIdeal.S16384x128 .f32) (x1 : FVec Ideal Cert.ReferenceIdeal.S2048x128 .f32)
    (x2 : IVec Cert.ReferenceIdeal.S16384 32) (x3 : IVec Cert.ReferenceIdeal.S2048 32)
    (x4 x5 x6 : FVec Ideal Cert.ReferenceIdeal.S128x128 .f32)
    (h0 : m ((c.tc : Thread _ Cert.KernelIdeal.τ).loc Cert.KernelIdeal.main_arg0) = x0)
    (h1 : m ((c.tc : Thread _ Cert.KernelIdeal.τ).loc Cert.KernelIdeal.main_arg1) = x1)
    (h2 : m ((c.tc : Thread _ Cert.KernelIdeal.τ).loc Cert.KernelIdeal.main_arg2) = x2)
    (h3 : m ((c.tc : Thread _ Cert.KernelIdeal.τ).loc Cert.KernelIdeal.main_arg3) = x3)
    (h4 : m ((c.tc : Thread _ Cert.KernelIdeal.τ).loc Cert.KernelIdeal.main_arg4) = x4)
    (h5 : m ((c.tc : Thread _ Cert.KernelIdeal.τ).loc Cert.KernelIdeal.main_arg5) = x5)
    (h6 : m ((c.tc : Thread _ Cert.KernelIdeal.τ).loc Cert.KernelIdeal.main_arg6) = x6)
    (ht : PreRead.Tame x0 x1 x2 x3 x4 x5) :
    Cert.KernelIdeal.Array.result m c = Cert.ReferenceIdeal.Read.val_main_v30 (F := Ideal) x0 x1 x2 x3 x4 x5 x6 := by
  have e : ∀ (r : Fin 16384) (d : Fin 128), Cert.KernelIdeal.Array.result m c (ix2 r d)
      = Cert.ReferenceIdeal.Read.val_main_v30 (F := Ideal) x0 x1 x2 x3 x4 x5 x6 (ix2 r d) := fun r d =>
    (Cert.KernelIdeal.BlockRow.result_apply x0 x1 x2 x3 x4 x5 x6 m c h0 h1 h2 h3 h4 h5 h6 ht r d).trans
      (Equation.ref_entry x0 x1 x2 x3 x4 x5 x6 ht r d).symm
  funext i
  rw [ValueIdx.eq_ix2 i]
  exact e (i 0) (i 1)

/-- The kernel equals the reference. -/
theorem algebraic : Cert.algebraic_KernelIdeal_ReferenceIdeal_pre_inputs_tame := fun m ρ m' ρ' hp hm =>
  ⟨fun c => Cert.KernelIdeal.Array.result m c, Cert.KernelIdeal.Array.run m ρ trivial,
    (θ_run Cert.ReferenceIdeal.defs _ _).mono
      (fun r h c => ⟨(h c).1.trans ((Cert.ReferenceIdeal.Read.val_main_v30_eq m' c).trans
        (result_eq m c _ _ _ _ _ _ _ (hm c).1.symm (hm c).2.1.symm (hm c).2.2.1.symm (hm c).2.2.2.1.symm (hm c).2.2.2.2.1.symm
          (hm c).2.2.2.2.2.1.symm (hm c).2.2.2.2.2.2.symm (by
            obtain ⟨a0, a1, a2, a3, a4, a5, -⟩ := hm c
            rw [a0, a1, a2, a3, a4, a5]
            exact PreRead.tame _ _ _ _ _ _ _ (hp c))).symm), (h c).2⟩)
      (Cert.ReferenceIdeal.Value.run m' ρ')⟩

end Cert.Equal

end
-- ==== Proof.lean ====
/- Everything claimed of the kernel, put together. -/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_inputs_tame

@[expose] public section

noncomputable section

namespace Cert.Proof

/-- The frames of the kernel, of its idealization and of the reference; the named constant; and the equality of the results. -/
theorem claim : Cert.Claim :=
  ⟨Cert.Kernel.Gen.facts, Cert.KernelIdeal.Gen.facts, Cert.ReferenceIdeal.Gen.facts, Cert.Pre_inputs_tame.Gen.facts,
    Frames.kernel, Frames.kernelIdeal, Frames.kernelIdealTame, Frames.referenceIdeal, Frames.referenceIdealTame, Frames.preserves,
    Equal.algebraic⟩

end Cert.Proof

end
